-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S512x1x4096 : Shape := ⟨3, ![512, 1, 4096]⟩
abbrev S2048x11008 : Shape := ⟨2, ![2048, 11008]⟩
abbrev S32x11008 : Shape := ⟨2, ![32, 11008]⟩
abbrev S16x11008 : Shape := ⟨2, ![16, 11008]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S512x1x4096 .bf16) (main_arg1 : IVec S2048x11008 8) (main_arg2 : IVec S2048x11008 8) (main_arg3 : IVec S32x11008 16) (main_arg4 : IVec S32x11008 16) (main_arg5 : IVec S16x11008 8) (main_arg6 : IVec S16x11008 8) (main_arg7 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg7 main_v0
  let main_c_0 : IVec S_ 32 := constantI S_ 32 32#32
  let main_v2 : IVec S4096 32 := broadcastInDim S4096 ![] bcast_S_S4096 main_c_0
  let main_v3 : IVec S4096 1 := cmpi .slt main_arg7 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S512x1x4096 : Shape := ⟨3, ![512, 1, 4096]⟩
abbrev S2048x11008 : Shape := ⟨2, ![2048, 11008]⟩
abbrev S32x11008 : Shape := ⟨2, ![32, 11008]⟩
abbrev S16x11008 : Shape := ⟨2, ![16, 11008]⟩
abbrev S4096 : Shape := ⟨1, ![4096]⟩
abbrev S512x4096 : Shape := ⟨2, ![512, 4096]⟩
abbrev S32x128 : Shape := ⟨2, ![32, 128]⟩
abbrev S512x11008 : Shape := ⟨2, ![512, 11008]⟩
abbrev S2048x256 : Shape := ⟨2, ![2048, 256]⟩
abbrev S32x256 : Shape := ⟨2, ![32, 256]⟩
abbrev S16x256 : Shape := ⟨2, ![16, 256]⟩
abbrev S512x256 : Shape := ⟨2, ![512, 256]⟩
abbrev S4096x128 : Shape := ⟨2, ![4096, 128]⟩
abbrev S8192x128 : Shape := ⟨2, ![8192, 128]⟩
abbrev S4096x256 : Shape := ⟨2, ![4096, 256]⟩
abbrev S1x128 : Shape := ⟨2, ![1, 128]⟩
abbrev S128x128 : Shape := ⟨2, ![128, 128]⟩
abbrev S64x128 : Shape := ⟨2, ![64, 128]⟩
abbrev S256x128 : Shape := ⟨2, ![256, 128]⟩
abbrev S16x128 : Shape := ⟨2, ![16, 128]⟩
abbrev S8x128 : Shape := ⟨2, ![8, 128]⟩
abbrev S32x128x1 : Shape := ⟨3, ![32, 128, 1]⟩

abbrev nBuf : Space → Nat
  | .hbm => 11
  | .vmem => 20
  | .smem => 0
  | _ => 0

abbrev bufTy : (tb : Table) → Fin (tcTables nBuf tb) → BufTy
  | .hbm, ⟨0, _⟩ => ⟨S512x1x4096, .bf16⟩
  | .hbm, ⟨1, _⟩ => ⟨S2048x11008, .i8⟩
  | .hbm, ⟨2, _⟩ => ⟨S2048x11008, .i8⟩
  | .hbm, ⟨3, _⟩ => ⟨S32x11008, .i16⟩
  | .hbm, ⟨4, _⟩ => ⟨S32x11008, .i16⟩
  | .hbm, ⟨5, _⟩ => ⟨S16x11008, .i8⟩
  | .hbm, ⟨6, _⟩ => ⟨S16x11008, .i8⟩
  | .hbm, ⟨7, _⟩ => ⟨S4096, .i32⟩
  | .hbm, ⟨8, _⟩ => ⟨S512x4096, .bf16⟩
  | .hbm, ⟨9, _⟩ => ⟨S32x128, .i32⟩
  | .hbm, ⟨10, _⟩ => ⟨S512x11008, .bf16⟩
  | .local _ .vmem, ⟨0, _⟩ => ⟨S512x4096, .bf16⟩
  | .local _ .vmem, ⟨1, _⟩ => ⟨S32x128, .i32⟩
  | .local _ .vmem, ⟨2, _⟩ => ⟨S2048x256, .i8⟩
  | .local _ .vmem, ⟨3, _⟩ => ⟨S2048x256, .i8⟩
  | .local _ .vmem, ⟨4, _⟩ => ⟨S2048x256, .i8⟩
  | .local _ .vmem, ⟨5, _⟩ => ⟨S2048x256, .i8⟩
  | .local _ .vmem, ⟨6, _⟩ => ⟨S32x256, .i16⟩
  | .local _ .vmem, ⟨7, _⟩ => ⟨S32x256, .i16⟩
  | .local _ .vmem, ⟨8, _⟩ => ⟨S32x256, .i16⟩
  | .local _ .vmem, ⟨9, _⟩ => ⟨S32x256, .i16⟩
  | .local _ .vmem, ⟨10, _⟩ => ⟨S16x256, .i8⟩
  | .local _ .vmem, ⟨11, _⟩ => ⟨S16x256, .i8⟩
  | .local _ .vmem, ⟨12, _⟩ => ⟨S16x256, .i8⟩
  | .local _ .vmem, ⟨13, _⟩ => ⟨S16x256, .i8⟩
  | .local _ .vmem, ⟨14, _⟩ => ⟨S512x256, .bf16⟩
  | .local _ .vmem, ⟨15, _⟩ => ⟨S512x256, .bf16⟩
  | .local _ .vmem, ⟨16, _⟩ => ⟨S4096x128, .i8⟩
  | .local _ .vmem, ⟨17, _⟩ => ⟨S8192x128, .i8⟩
  | .local _ .vmem, ⟨18, _⟩ => ⟨S4096x256, .bf16⟩
  | .local _ .vmem, ⟨19, _⟩ => ⟨S4096x256, .bf16⟩
  | _, _ => ⟨S512x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .i16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S512x1x4096 : Shape := ⟨3, ![512, 1, 4096]⟩
abbrev S2048x11008 : Shape := ⟨2, ![2048, 11008]⟩
abbrev S32x11008 : Shape := ⟨2, ![32, 11008]⟩
abbrev S16x11008 : Shape := ⟨2, ![16, 11008]⟩
abbrev S4096 : Shape := ⟨1, ![4096]⟩
abbrev S_ : Shape := ⟨0, ![]⟩
abbrev S2048 : Shape := ⟨1, ![2048]⟩
abbrev S2048x1 : Shape := ⟨2, ![2048, 1]⟩
abbrev S512x1x2048 : Shape := ⟨3, ![512, 1, 2048]⟩
abbrev S512x1x11008 : Shape := ⟨3, ![512, 1, 11008]⟩
abbrev S512x11008 : Shape := ⟨2, ![512, 11008]⟩

abbrev nBuf : Space → Nat
  | .hbm => 154
  | .vmem => 0
  | .smem => 0
  | _ => 0

abbrev hbmTy0_0 (i : Nat) : BufTy := match i % 128 with
  | 0 => ⟨S512x1x4096, .bf16⟩
  | 1 => ⟨S2048x11008, .i8⟩
  | 2 => ⟨S2048x11008, .i8⟩
  | 3 => ⟨S32x11008, .i16⟩
  | 4 => ⟨S32x11008, .i16⟩
  | 5 => ⟨S16x11008, .i8⟩
  | 6 => ⟨S16x11008, .i8⟩
  | 7 => ⟨S4096, .i32⟩
  | 8 => ⟨S2048x11008, .i32⟩
  | 9 => ⟨S16x11008, .i32⟩
  | 10 => ⟨S32x11008, .bf16⟩
  | 11 => ⟨S_, .i32⟩
  | 12 => ⟨S16x11008, .i32⟩
  | 13 => ⟨S16x11008, .i32⟩
  | 14 => ⟨S16x11008, .bf16⟩
  | 15 => ⟨S_, .i32⟩
  | 16 => ⟨S16x11008, .i32⟩
  | 17 => ⟨S16x11008, .i32⟩
  | 18 => ⟨S16x11008, .bf16⟩
  | 19 => ⟨S32x11008, .bf16⟩
  | 20 => ⟨S_, .i32⟩
  | 21 => ⟨S2048x11008, .i32⟩
  | 22 => ⟨S2048x11008, .i32⟩
  | 23 => ⟨S2048x11008, .bf16⟩
  | 24 => ⟨S2048, .i32⟩
  | 25 => ⟨S_, .i32⟩
  | 26 => ⟨S2048, .i32⟩
  | 27 => ⟨S2048, .i1⟩
  | 28 => ⟨S_, .i32⟩
  | 29 => ⟨S2048, .i32⟩
  | 30 => ⟨S2048, .i32⟩
  | 31 => ⟨S2048, .i32⟩
  | 32 => ⟨S2048x1, .i32⟩
  | 33 => ⟨S2048x11008, .bf16⟩
  | 34 => ⟨S2048x11008, .bf16⟩
  | 35 => ⟨S_, .i32⟩
  | 36 => ⟨S2048, .i32⟩
  | 37 => ⟨S2048, .i1⟩
  | 38 => ⟨S_, .i32⟩
  | 39 => ⟨S2048, .i32⟩
  | 40 => ⟨S2048, .i32⟩
  | 41 => ⟨S2048, .i32⟩
  | 42 => ⟨S2048x1, .i32⟩
  | 43 => ⟨S2048x11008, .bf16⟩
  | 44 => ⟨S2048x11008, .bf16⟩
  | 45 => ⟨S512x1x2048, .bf16⟩
  | 46 => ⟨S512x1x11008, .f32⟩
  | 47 => ⟨S_, .i32⟩
  | 48 => ⟨S2048x11008, .i32⟩
  | 49 => ⟨S2048x11008, .i32⟩
  | 50 => ⟨S2048x11008, .bf16⟩
  | 51 => ⟨S2048, .i32⟩
  | 52 => ⟨S_, .i32⟩
  | 53 => ⟨S2048, .i32⟩
  | 54 => ⟨S2048, .i1⟩
  | 55 => ⟨S_, .i32⟩
  | 56 => ⟨S2048, .i32⟩
  | 57 => ⟨S2048, .i32⟩
  | 58 => ⟨S2048, .i32⟩
  | 59 => ⟨S2048x1, .i32⟩
  | 60 => ⟨S2048x11008, .bf16⟩
  | 61 => ⟨S2048x11008, .bf16⟩
  | 62 => ⟨S_, .i32⟩
  | 63 => ⟨S2048, .i32⟩
  | 64 => ⟨S2048, .i1⟩
  | 65 => ⟨S_, .i32⟩
  | 66 => ⟨S2048, .i32⟩
  | 67 => ⟨S2048, .i32⟩
  | 68 => ⟨S2048, .i32⟩
  | 69 => ⟨S2048x1, .i32⟩
  | 70 => ⟨S2048x11008, .bf16⟩
  | 71 => ⟨S2048x11008, .bf16⟩
  | 72 => ⟨S512x1x2048, .bf16⟩
  | 73 => ⟨S512x1x11008, .f32⟩
  | 74 => ⟨S512x1x11008, .f32⟩
  | 75 => ⟨S2048x11008, .i32⟩
  | 76 => ⟨S16x11008, .i32⟩
  | 77 => ⟨S32x11008, .bf16⟩
  | 78 => ⟨S_, .i32⟩
  | 79 => ⟨S16x11008, .i32⟩
  | 80 => ⟨S16x11008, .i32⟩
  | 81 => ⟨S16x11008, .bf16⟩
  | 82 => ⟨S_, .i32⟩
  | 83 => ⟨S16x11008, .i32⟩
  | 84 => ⟨S16x11008, .i32⟩
  | 85 => ⟨S16x11008, .bf16⟩
  | 86 => ⟨S32x11008, .bf16⟩
  | 87 => ⟨S_, .i32⟩
  | 88 => ⟨S2048x11008, .i32⟩
  | 89 => ⟨S2048x11008, .i32⟩
  | 90 => ⟨S2048x11008, .bf16⟩
  | 91 => ⟨S2048, .i32⟩
  | 92 => ⟨S_, .i32⟩
  | 93 => ⟨S2048, .i32⟩
  | 94 => ⟨S2048, .i1⟩
  | 95 => ⟨S_, .i32⟩
  | 96 => ⟨S2048, .i32⟩
  | 97 => ⟨S2048, .i32⟩
  | 98 => ⟨S2048, .i32⟩
  | 99 => ⟨S2048x1, .i32⟩
  | 100 => ⟨S2048x11008, .bf16⟩
  | 101 => ⟨S2048x11008, .bf16⟩
  | 102 => ⟨S_, .i32⟩
  | 103 => ⟨S2048, .i32⟩
  | 104 => ⟨S2048, .i1⟩
  | 105 => ⟨S_, .i32⟩
  | 106 => ⟨S2048, .i32⟩
  | 107 => ⟨S2048, .i32⟩
  | 108 => ⟨S2048, .i32⟩
  | 109 => ⟨S2048x1, .i32⟩
  | 110 => ⟨S2048x11008, .bf16⟩
  | 111 => ⟨S2048x11008, .bf16⟩
  | 112 => ⟨S512x1x2048, .bf16⟩
  | 113 => ⟨S512x1x11008, .f32⟩
  | 114 => ⟨S_, .i32⟩
  | 115 => ⟨S2048x11008, .i32⟩
  | 116 => ⟨S2048x11008, .i32⟩
  | 117 => ⟨S2048x11008, .bf16⟩
  | 118 => ⟨S2048, .i32⟩
  | 119 => ⟨S_, .i32⟩
  | 120 => ⟨S2048, .i32⟩
  | 121 => ⟨S2048, .i1⟩
  | 122 => ⟨S_, .i32⟩
  | 123 => ⟨S2048, .i32⟩
  | 124 => ⟨S2048, .i32⟩
  | 125 => ⟨S2048, .i32⟩
  | 126 => ⟨S2048x1, .i32⟩
  | 127 => ⟨S2048x11008, .bf16⟩
  | _ => ⟨S512x1x4096, .bf16⟩

abbrev hbmTy0_1 (i : Nat) : BufTy := match i % 128 with
  | 0 => ⟨S2048x11008, .bf16⟩
  | 1 => ⟨S_, .i32⟩
  | 2 => ⟨S2048, .i32⟩
  | 3 => ⟨S2048, .i1⟩
  | 4 => ⟨S_, .i32⟩
  | 5 => ⟨S2048, .i32⟩
  | 6 => ⟨S2048, .i32⟩
  | 7 => ⟨S2048, .i32⟩
  | 8 => ⟨S2048x1, .i32⟩
  | 9 => ⟨S2048x11008, .bf16⟩
  | 10 => ⟨S2048x11008, .bf16⟩
  | 11 => ⟨S512x1x2048, .bf16⟩
  | 12 => ⟨S512x1x11008, .f32⟩
  | 13 => ⟨S512x1x11008, .f32⟩
  | 14 => ⟨S512x1x11008, .f32⟩
  | 15 => ⟨S512x1x11008, .f32⟩
  | 16 => ⟨S_, .f32⟩
  | 17 => ⟨S512x1x11008, .f32⟩
  | 18 => ⟨S512x1x11008, .f32⟩
  | 19 => ⟨S_, .f32⟩
  | 20 => ⟨S512x1x11008, .f32⟩
  | 21 => ⟨S512x1x11008, .f32⟩
  | 22 => ⟨S512x1x11008, .f32⟩
  | 23 => ⟨S512x1x11008, .f32⟩
  | 24 => ⟨S512x1x11008, .bf16⟩
  | 25 => ⟨S512x11008, .bf16⟩
  | _ => ⟨S512x1x4096, .bf16⟩

abbrev hbmTy (i : Nat) : BufTy := match i / 128 with
  | 0 => hbmTy0_0 i
  | 1 => hbmTy0_1 i
  | _ => ⟨S512x1x4096, .bf16⟩

abbrev bufTy : (tb : Table) → Fin (tcTables nBuf tb) → BufTy
  | .hbm, ⟨i, _⟩ => hbmTy i
  | _, _ => ⟨S512x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_13 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_14 : Ref sig .tc := ⟨.hbm, 92, rfl⟩
abbrev main_v69 : Ref sig .tc := ⟨.hbm, 93, rfl⟩
abbrev main_v70 : Ref sig .tc := ⟨.hbm, 94, rfl⟩
abbrev main_c_15 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_16 : Ref sig .tc := ⟨.hbm, 102, rfl⟩
abbrev main_v77 : Ref sig .tc := ⟨.hbm, 103, rfl⟩
abbrev main_v78 : Ref sig .tc := ⟨.hbm, 104, rfl⟩
abbrev main_c_17 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_18 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_c_19 : Ref sig .tc := ⟨.hbm, 119, rfl⟩
abbrev main_v91 : Ref sig .tc := ⟨.hbm, 120, rfl⟩
abbrev main_v92 : Ref sig .tc := ⟨.hbm, 121, rfl⟩
abbrev main_c_20 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_21 : Ref sig .tc := ⟨.hbm, 129, rfl⟩
abbrev main_v99 : Ref sig .tc := ⟨.hbm, 130, rfl⟩
abbrev main_v100 : Ref sig .tc := ⟨.hbm, 131, rfl⟩
abbrev main_c_22 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst : Ref sig .tc := ⟨.hbm, 144, rfl⟩
abbrev main_v112 : Ref sig .tc := ⟨.hbm, 145, rfl⟩
abbrev main_v113 : Ref sig .tc := ⟨.hbm, 146, rfl⟩
abbrev main_cst_23 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩

abbrev nD : Nat := 1
abbrev τ : Topo := Topo.v7x

variable {F : FTy → Type} [FloatOps F]
-- ==== Proof.Bits.lean ====
module

public import Idealize.ShloMosaic.Lib.BitcastFour
public import Idealize.ShloMosaic.Lib.BitcastPair
public import Idealize.ShloMosaic.Lib.Pointwise

@[expose] public section

/-!
Bit-casts of matrices and arithmetic on the bytes of a 32-bit word: what the kernel's unpacking of int4 codes,
its byte-wise subtraction of zero points and its byte-wise gather of bf16 scales compute, element by element.
-/

namespace Cert.Int4

open Idealize.ShloMosaic

/-- A bit-cast between element widths, of a matrix, read one bit at a time: bit `q` of row `a` is the
    bit at the same place of the column's bits. -/
theorem bitcast_bit {R r n v w : Nat} (x : (⟨2, ![R, n]⟩ : Shape).Idx → BitVec v)
    (h : (⟨2, ![R, n]⟩ : Shape).Bitcasts v ⟨2, ![r, n]⟩ w) (hv : 0 < v) (a : Fin r) (l : Fin n) (q : Nat) (hq : q < w)
    (p : Fin R) (hp : p.val = (a.val * w + q) / v) :
    (bitcast ⟨2, ![r, n]⟩ w x h (ix2 a l)).getLsbD q = (x (ix2 p l)).getLsbD ((a.val * w + q) % v) := by
  rw [bitcast_getLsbD x h _ q hq hv]
  have : (⟨2, ![r, n]⟩ : Shape).row (ix2 a l) = a.val := rfl
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- Four rows of bytes as one row of words: byte `b` of word `a` is row `4a + b`. -/
theorem word_byte {R r n : Nat} (x : (⟨2, ![R, n]⟩ : Shape).Idx → BitVec 8)
    (h : (⟨2, ![R, n]⟩ : Shape).Bitcasts 8 ⟨2, ![r, n]⟩ 32) (a : Fin r) (l : Fin n) (b : Nat) (hb : b < 4)
    (p : Fin R) (hp : p.val = 4 * a.val + b) :
    (bitcast ⟨2, ![r, n]⟩ 32 x h (ix2 a l)).extractLsb' (8 * b) 8 = x (ix2 p l) := by
  apply BitVec.eq_of_getLsbD_eq
  intro i hi
  rw [BitVec.getLsbD_extractLsb', bitcast_bit x h (by decide) a l (8 * b + i) (by omega) p (by omega)]
  simp only [hi, decide_true, Bool.true_and]
  congr 1; omega

/-- Words as four rows of bytes: row `a` is byte `a % 4` of word `a / 4`. -/
theorem byte_of_word {R r n : Nat} (x : (⟨2, ![R, n]⟩ : Shape).Idx → BitVec 32)
    (h : (⟨2, ![R, n]⟩ : Shape).Bitcasts 32 ⟨2, ![r, n]⟩ 8) (a : Fin r) (l : Fin n)
    (p : Fin R) (hp : p.val = a.val / 4) :
    bitcast ⟨2, ![r, n]⟩ 8 x h (ix2 a l) = (x (ix2 p l)).extractLsb' (8 * (a.val % 4)) 8 := by
  apply BitVec.eq_of_getLsbD_eq
  intro i hi
  rw [BitVec.getLsbD_extractLsb', bitcast_bit x h (by decide) a l i (by omega) p (by omega)]
  simp only [hi, decide_true, Bool.true_and]
  congr 1; omega

/-- Words as two rows of 16-bit halves: row `a` is half `a % 2` of word `a / 2`. -/
theorem half_of_word {R r n : Nat} (x : (⟨2, ![R, n]⟩ : Shape).Idx → BitVec 32)
    (h : (⟨2, ![R, n]⟩ : Shape).Bitcasts 32 ⟨2, ![r, n]⟩ 16) (a : Fin r) (l : Fin n)
    (p : Fin R) (hp : p.val = a.val / 2) :
    bitcast ⟨2, ![r, n]⟩ 16 x h (ix2 a l) = (x (ix2 p l)).extractLsb' (16 * (a.val % 2)) 16 := by
  apply BitVec.eq_of_getLsbD_eq
  intro i hi
  rw [BitVec.getLsbD_extractLsb', bitcast_bit x h (by decide) a l i (by omega) p (by omega)]
  simp only [hi, decide_true, Bool.true_and]
  congr 1; omega

/-- 16-bit rows bit-cast to words and on to bytes: row `a` is byte `a % 2` of the 16-bit row `a / 2`. -/
theorem byte_of_half {R m r n : Nat} (x : (⟨2, ![R, n]⟩ : Shape).Idx → BitVec 16)
    (h : (⟨2, ![R, n]⟩ : Shape).Bitcasts 16 ⟨2, ![m, n]⟩ 32) (h' : (⟨2, ![m, n]⟩ : Shape).Bitcasts 32 ⟨2, ![r, n]⟩ 8)
    (a : Fin r) (l : Fin n) (hm : a.val / 4 < m) (p : Fin R) (hp : p.val = a.val / 2) :
    bitcast ⟨2, ![r, n]⟩ 8 (bitcast ⟨2, ![m, n]⟩ 32 x h) h' (ix2 a l)
      = (x (ix2 p l)).extractLsb' (8 * (a.val % 2)) 8 := by
  apply BitVec.eq_of_getLsbD_eq
  intro i hi
  rw [byte_of_word _ h' a l ⟨a.val / 4, hm⟩ rfl, BitVec.getLsbD_extractLsb', BitVec.getLsbD_extractLsb',
    bitcast_bit x h (by decide) ⟨a.val / 4, hm⟩ l (8 * (a.val % 4) + i) (by omega) p (by show p.val = (a.val / 4 * 32 + _) / 16; omega)]
  simp only [hi, decide_true, Bool.true_and]
  congr 1
  show (a.val / 4 * 32 + _) % 16 = _
  omega

/-- A word is its four bytes. -/
theorem toNat_bytes (A : BitVec 32) : A.toNat = (A.extractLsb' 0 8).toNat + 256 * ((A.extractLsb' 8 8).toNat + 256 * ((A.extractLsb' 16 8).toNat + 256 * (A.extractLsb' 24 8).toNat)) := by
  have := A.isLt
  simp only [BitVec.extractLsb'_toNat, Nat.shiftRight_eq_div_pow]
  norm_num
  omega

/-- Four digits each, added digit by digit. -/
theorem bytes_add (a0 a1 a2 a3 b0 b1 b2 b3 : Nat) :
   a0 + 256 * (a1 + 256 * (a2 + 256 * a3)) + (b0 + 256 * (b1 + 256 * (b2 + 256 * b3))) = (a0+b0) + 256 * ((a1+b1) + 256 * ((a2+b2) + 256 * (a3+b3))) := by ring

/-- The four digits of a number written in base 256. -/
theorem byte_at (c0 c1 c2 c3 : Nat) (h0 : c0 < 256) (h1 : c1 < 256) (h2 : c2 < 256) (h3 : c3 < 256) :
   let n := c0 + 256 * (c1 + 256 * (c2 + 256 * c3))
   n < 4294967296 ∧ n / 1 % 256 = c0 ∧ n / 256 % 256 = c1 ∧ n / 65536 % 256 = c2 ∧ n / 16777216 % 256 = c3 := by
  intro n; simp only [n]; refine ⟨by omega, by omega, by omega, by omega, by omega⟩

/-- Two words added where no byte carries: the bytes are added. -/
theorem add_byte (A B : BitVec 32) (b : Nat) (hb : ∀ b < 4, (A.extractLsb' (8*b) 8).toNat + (B.extractLsb' (8*b) 8).toNat < 256) (h : b < 4) :
   (A + B).extractLsb' (8*b) 8 = A.extractLsb' (8*b) 8 + B.extractLsb' (8*b) 8 := by
  have h0 := hb 0 (by omega); have h1 := hb 1 (by omega); have h2 := hb 2 (by omega); have h3 := hb 3 (by omega)
  obtain ⟨k, k0, k1, k2, k3⟩ := byte_at _ _ _ _ h0 h1 h2 h3
  have e := toNat_bytes A
  have e' := toNat_bytes B
  have s : (A + B).toNat = A.toNat + B.toNat := by
    rw [BitVec.toNat_add, e, e', bytes_add]; exact Nat.mod_eq_of_lt k
  rw [e, e', bytes_add] at s
  apply BitVec.eq_of_toNat_eq
  rw [BitVec.toNat_add, BitVec.extractLsb'_toNat, Nat.shiftRight_eq_div_pow, s]
  have : b = 0 ∨ b = 1 ∨ b = 2 ∨ b = 3 := by omega
  rcases this with rfl | rfl | rfl | rfl
  · exact k0.trans (Nat.mod_eq_of_lt h0).symm
  · exact k1.trans (Nat.mod_eq_of_lt h1).symm
  · exact k2.trans (Nat.mod_eq_of_lt h2).symm
  · exact k3.trans (Nat.mod_eq_of_lt h3).symm

/-- The low byte of every half from one word, the high byte from another. -/
theorem merge_half (A B : BitVec 32) (k : Nat) (hk : k < 2) : ((A &&& 0x00FF00FF#32) ||| (B &&& 0xFF00FF00#32)).extractLsb' (16*k) 16 = B.extractLsb' (16*k+8) 8 ++ A.extractLsb' (16*k) 8 := by
  apply BitVec.eq_of_getLsbD_eq
  intro i hi
  have hA : ∀ k < 2, ∀ i < 16, (0x00FF00FF#32).getLsbD (16*k+i) = decide (i < 8) := by decide
  have hB : ∀ k < 2, ∀ i < 16, (0xFF00FF00#32).getLsbD (16*k+i) = decide (¬ i < 8) := by decide
  rw [BitVec.getLsbD_extractLsb', BitVec.getLsbD_or, BitVec.getLsbD_and, BitVec.getLsbD_and, BitVec.getLsbD_append, hA k hk i hi, hB k hk i hi]
  by_cases h : i < 8
  · simp [h, hi]
  · have : 16 * k + i = 16 * k + 8 + (i - 8) := by omega
    simp [h, hi, ← this, show i - 8 < 8 by omega]

/-- Flipping the top bit of every byte, read at one byte. -/
theorem flip_byte (A : BitVec 32) (b : Nat) (h : b < 4) :
    (A ^^^ 0x80808080#32).extractLsb' (8 * b) 8 = A.extractLsb' (8 * b) 8 ^^^ 0x80#8 := by
  apply BitVec.eq_of_getLsbD_eq
  intro i hi
  have hA : ∀ b < 4, ∀ i < 8, (0x80808080#32).getLsbD (8 * b + i) = (0x80#8).getLsbD i := by decide
  rw [BitVec.getLsbD_extractLsb', BitVec.getLsbD_xor, BitVec.getLsbD_xor, BitVec.getLsbD_extractLsb', hA b h i hi]
  simp [hi]

/-- A 4-bit code of a packed byte: the low one at even places, the high one at odd places. -/
def nib (par : Nat) (b : BitVec 8) : Nat := if par = 0 then b.toNat % 16 else b.toNat / 16

/-- A code is less than 16. -/
theorem nib_lt (par : Nat) (b : BitVec 8) : nib par b < 16 := by
  unfold nib; have := b.isLt; split <;> omega

/-- The two codes of a byte spread over the two bytes of a half word. -/
theorem spread_byte (b : BitVec 8) (par : Nat) (h : par < 2) :
    (((b.setWidth 32 &&& 15#32) ||| (((b.setWidth 32).sshiftRight' 4#32) <<< 8#32)).setWidth 16).extractLsb' (8 * par) 8
      = BitVec.ofNat 8 (nib par b) := by
  have : ∀ b : BitVec 8, ∀ par < 2, (((b.setWidth 32 &&& 15#32) ||| (((b.setWidth 32).sshiftRight' 4#32) <<< 8#32)).setWidth 16).extractLsb' (8 * par) 8
      = BitVec.ofNat 8 (nib par b) := by decide +kernel
  exact this b par h

/-- A code plus 128 less a zero point, top bit flipped, is their difference as a signed byte. -/
theorem diff_byte (c z : Nat) (hc : c < 16) (hz : z < 16) :
    ((BitVec.ofNat 8 c + BitVec.ofNat 8 (128 - z)) ^^^ 0x80#8).toInt = (c : Int) - z := by
  have : ∀ c < 16, ∀ z < 16, ((BitVec.ofNat 8 c + BitVec.ofNat 8 (128 - z)) ^^^ 0x80#8).toInt = (c : Int) - z := by decide +kernel
  exact this c hc z hz

end Cert.Int4
-- ==== Proof.Dequant.lean ====
module

public import proofs.«01_k».proof.Proof.Gen.KernelIdeal
public import proofs.«01_k».proof.Proof.Bits
public import Idealize.ShloMosaic.Lib.Pipeline.Value

@[expose] public section

/-!
The kernel's dequantisation of one piece of sixteen rows and 128 columns of the weights, as one definition over
what it reads, and the element it computes: the 4-bit code less its group's zero point, times its group's scale.
-/

noncomputable section

namespace Cert.Int4

open Idealize.ShloMosaic Cert.KernelIdeal Cert.KernelIdeal.Gen

variable {F : FTy → Type} [FloatOps F]

/-- The low bytes of the scales' 16-bit patterns. -/
def sLo (s : IVec S32x128 16) : IVec S32x128 8 :=
  trunci 8 (andi (extsi 32 s natLt_16_32) (broadcast S32x128 255#32)) natLt_8_32

/-- The high bytes of the scales' 16-bit patterns. -/
def sHi (s : IVec S32x128 16) : IVec S32x128 8 :=
  trunci 8 (andi (shrsi (extsi 32 s natLt_16_32) (broadcast S32x128 8#32)) (broadcast S32x128 255#32)) natLt_8_32

/-- 128 less each group's zero point, the zero points unpacked from two codes a byte. -/
def zNeg (z : IVec S16x128 8) : IVec S32x128 8 :=
  trunci 8 (subi (broadcast S32x128 128#32)
    (concatenate S32x128 0 [⟨S16x128, andi (extui 32 z natLt_8_32) (broadcast S16x128 15#32)⟩,
      ⟨S16x128, shrsi (extui 32 z natLt_8_32) (broadcast S16x128 4#32)⟩] concatenates_S16x128_S16x128_S32x128_d0)) natLt_8_32

/-- The codes of 32 packed rows, one byte each, in row order. -/
def codes (q : IVec S32x128 8) : IVec S64x128 8 :=
  bitcast S64x128 8 (bitcast S16x128 32 (trunci 16 (ori (andi (extui 32 q natLt_8_32) (broadcast S32x128 15#32))
    (shli (shrsi (extui 32 q natLt_8_32) (broadcast S32x128 4#32)) (broadcast S32x128 8#32))) natLt_16_32)
    bitcasts_S32x128_w16_S16x128_w32) bitcasts_S16x128_w32_S64x128_w8

/-- Rows of a table named by a matrix of bytes. -/
def pick (t : IVec S32x128 8) (ix : IVec S32x128 8) : IVec S32x128 8 :=
  dynamicGather 0 t (shapeCast S32x128 (shapeCast S32x128x1 (extsi 32 ix natLt_8_32) shapeCasts_S32x128_S32x128x1) shapeCasts_S32x128x1_S32x128)

/-- Codes less zero points, of 32 rows of the 64, from row `32 h` on. -/
def diff (z : IVec S16x128 8) (q : IVec S32x128 8) (h : Nat) (hs : S64x128.Slices ![32 * h, 0] S32x128) (ix : IVec S32x128 8) :
    FVec F S32x128 .bf16 :=
  sitofp .bf16 (bitcast S32x128 8 (xori (addi
    (bitcast S8x128 32 (extractStridedSlice S32x128 ![32 * h, 0] (codes q) hs) bitcasts_S32x128_w8_S8x128_w32)
    (bitcast S8x128 32 (pick (zNeg z) ix) bitcasts_S32x128_w8_S8x128_w32))
    (broadcast S8x128 2155905152#32)) bitcasts_S8x128_w32_S32x128_w8)

/-- The scales of sixteen rows, put together from their gathered low and high bytes. -/
def scale (s : IVec S32x128 16) (i2 : IVec S32x128 8) : FVec F S16x128 .bf16 :=
  bitcastToFloat .bf16 (bitcast S16x128 16 (ori
    (andi (bitcast S8x128 32 (pick (sLo s) i2) bitcasts_S32x128_w8_S8x128_w32) (broadcast S8x128 16711935#32))
    (andi (bitcast S8x128 32 (pick (sHi s) i2) bitcasts_S32x128_w8_S8x128_w32) (broadcast S8x128 4278255360#32)))
    bitcasts_S8x128_w32_S16x128_w16)

/-- Sixteen rows of weights, from row `32 h + 16 p` of the 64 on. -/
def piece (s : IVec S32x128 16) (z : IVec S16x128 8) (q : IVec S32x128 8) (h p : Nat)
    (hs : S64x128.Slices ![32 * h, 0] S32x128) (ps : S32x128.Slices ![16 * p, 0] S16x128) (ix i2 : IVec S32x128 8) :
    FVec F S16x128 .bf16 :=
  shapeCast S16x128 (mulf (extractStridedSlice S16x128 ![16 * p, 0] (diff z q h hs ix) ps) (scale s i2)) shapeCasts_S16x128_S16x128

/-! ## Elements -/

/-- The zero point of group `g`: its code in the packed zero points. -/
def zero (z : IVec S16x128 8) (g : Nat) (hg : g < 32) (l : Fin 128) : Nat :=
  nib (g / 16) (z (ix2 ⟨g % 16, Nat.mod_lt _ (by decide)⟩ l))

/-- A zero point is less than 16. -/
theorem zero_lt (z : IVec S16x128 8) (g : Nat) (hg : g < 32) (l : Fin 128) : zero z g hg l < 16 := nib_lt _ _

/-- A gather of rows by a block of row numbers, read at an element. -/
theorem pick_at (t ix : IVec S32x128 8) (r : Fin 32) (l : Fin 128) (g : Nat) (hg : g < 32)
    (h : ix (ix2 r l) = BitVec.ofNat 8 g) : pick t ix (ix2 r l) = t (ix2 ⟨g, hg⟩ l) := by
  have e : ∀ g < 32, ((BitVec.ofNat 8 g).signExtend 32).toNat % 32 = g := by decide
  have hc : shapeCast S32x128 (shapeCast S32x128x1 (extsi 32 ix natLt_8_32) shapeCasts_S32x128_S32x128x1) shapeCasts_S32x128x1_S32x128
      = extsi 32 ix natLt_8_32 := shapeCast_shapeCast _ _ _
  unfold pick
  rw [hc]
  unfold dynamicGather
  congr 1
  funext b
  match b with
  | ⟨0, _⟩ =>
    refine Fin.ext ?_
    show ((ix (ix2 r l)).signExtend 32).toNat % 32 = g
    rw [h]; exact e g hg
  | ⟨1, _⟩ => rfl

/-- The table of zero points the kernel gathers from holds 128 less the zero point. -/
theorem zNeg_at (z : IVec S16x128 8) (g : Nat) (hg : g < 32) (l : Fin 128) :
    zNeg z (ix2 ⟨g, hg⟩ l) = BitVec.ofNat 8 (128 - zero z g hg l) := by
  have lo : ∀ b : BitVec 8, (128#32 - (b.setWidth 32 &&& 15#32)).setWidth 8 = BitVec.ofNat 8 (128 - nib 0 b) := by decide +kernel
  have hi : ∀ b : BitVec 8, (128#32 - (b.setWidth 32).sshiftRight' 4#32).setWidth 8 = BitVec.ofNat 8 (128 - nib 1 b) := by decide +kernel
  unfold zNeg zero
  by_cases h : g < 16
  · have hd : g / 16 = 0 := by omega
    have hm : g % 16 = g := by omega
    simp only [hd, hm]
    show (128#32 - concatenate S32x128 0 _ _ _).setWidth 8 = _
    rw [concatenate_pair_apply_left (t := S32x128) (s₁ := S16x128) (s₂ := S16x128) 0 _ _ _ _ rfl (ix2 ⟨g, h⟩ l)
      (fun b => by match b with | ⟨0, _⟩ => rfl | ⟨1, _⟩ => rfl)]
    exact lo _
  · have hd : g / 16 = 1 := by omega
    have hm : g % 16 = g - 16 := by omega
    simp only [hd, hm]
    show (128#32 - concatenate S32x128 0 _ _ _).setWidth 8 = _
    rw [concatenate_pair_apply_right (t := S32x128) (s₁ := S16x128) (s₂ := S16x128) 0 _ _ _ _ rfl rfl (ix2 ⟨g - 16, by omega⟩ l)
      (fun b hb => by match b with | ⟨0, _⟩ => exact absurd rfl hb | ⟨1, _⟩ => rfl)
      (by show g - 16 + 16 = g; omega)]
    exact hi _

/-- The unpacked codes, row by row: row `2 i` the low code of packed row `i`, row `2 i + 1` the high one. -/
theorem codes_at (q : IVec S32x128 8) (r : Fin 64) (l : Fin 128) :
    codes q (ix2 r l) = BitVec.ofNat 8 (nib (r.val % 2) (q (ix2 ⟨r.val / 2, by omega⟩ l))) := by
  unfold codes
  rw [byte_of_half _ _ _ r l (by omega) ⟨r.val / 2, by omega⟩ rfl]
  exact spread_byte _ _ (Nat.mod_lt _ (by decide))

/-- A 16-bit pattern is its high byte on its low byte. -/
theorem join_bytes (v : BitVec 16) :
    (((v.signExtend 32).sshiftRight' 8#32 &&& 255#32).setWidth 8 ++ (v.signExtend 32 &&& 255#32).setWidth 8 : BitVec 16) = v := by
  apply BitVec.eq_of_getLsbD_eq
  intro i hi
  have hm : ∀ i < 8, (255#32).getLsbD i = true := by decide
  rw [BitVec.getLsbD_append]
  by_cases h : i < 8
  · rw [if_pos h, BitVec.getLsbD_setWidth, BitVec.getLsbD_and, hm i h, BitVec.getLsbD_signExtend]
    simp only [h, show i < 32 by omega, show i < 16 by omega, decide_true, Bool.true_and, Bool.and_true, if_true]
  · have h8 : i - 8 < 8 := by omega
    rw [if_neg h, BitVec.getLsbD_setWidth, BitVec.getLsbD_and, hm _ h8, BitVec.sshiftRight_eq', BitVec.getLsbD_sshiftRight,
      show (8#32).toNat = 8 from rfl, show 8 + (i - 8) = i by omega, BitVec.getLsbD_signExtend]
    simp [h8, show i < 32 by omega, show i < 16 by omega, show ¬ 32 ≤ i - 8 by omega, show i - 8 < 24 by omega]

/-- The code less the zero point, read at an element. -/
theorem diff_at (z : IVec S16x128 8) (q : IVec S32x128 8) (h : Nat) (hs : S64x128.Slices ![32 * h, 0] S32x128) (ix : IVec S32x128 8)
    (hh : h < 2) (a : Fin 32) (l : Fin 128) (g : Nat) (hg : g < 32) (hi : ix (ix2 a l) = BitVec.ofNat 8 g) :
    (diff z q h hs ix : FVec Ideal S32x128 .bf16) (ix2 a l)
      = (((nib (a.val % 2) (q (ix2 ⟨16 * h + a.val / 2, by omega⟩ l)) : Int) - zero z g hg l : Int) : ℝ) := by
  have hw : a.val / 4 < 8 := by omega
  have hb : a.val % 4 < 4 := Nat.mod_lt _ (by decide)
  have row : ∀ b : Nat, b < 4 → ∃ p : Fin 32, p.val = 4 * (a.val / 4) + b := fun b hb => ⟨⟨4 * (a.val / 4) + b, by omega⟩, rfl⟩
  have hx : ∀ p : Fin 32, extractStridedSlice S32x128 ![32 * h, 0] (codes q) hs (ix2 p l)
      = BitVec.ofNat 8 (nib (p.val % 2) (q (ix2 ⟨16 * h + p.val / 2, by omega⟩ l))) := by
    intro p
    have e : extractStridedSlice S32x128 ![32 * h, 0] (codes q) hs (ix2 p l) = codes q (ix2 ⟨32 * h + p.val, by omega⟩ l) := by
      unfold extractStridedSlice
      congr 1
      funext c
      match c with
      | ⟨0, _⟩ => rfl
      | ⟨1, _⟩ => exact Fin.ext (Nat.zero_add _)
    rw [e, codes_at]
    have h2 : (32 * h + p.val) % 2 = p.val % 2 := by omega
    have h3 : (32 * h + p.val) / 2 = 16 * h + p.val / 2 := by omega
    simp only [h2, h3]
  have hz : ∀ p : Fin 32, ∃ g, ∃ hg : g < 32, pick (zNeg z) ix (ix2 p l) = BitVec.ofNat 8 (128 - zero z g hg l) := by
    intro p
    exact ⟨((ix (ix2 p l)).signExtend 32).toNat % 32, Nat.mod_lt _ (by decide), by
      rw [← zNeg_at]; unfold pick; rw [shapeCast_shapeCast]; unfold dynamicGather; congr 1; funext b
      match b with
      | ⟨0, _⟩ => rfl
      | ⟨1, _⟩ => rfl⟩
  show (((bitcast S32x128 8 (xori (addi
    (bitcast S8x128 32 (extractStridedSlice S32x128 ![32 * h, 0] (codes q) hs) bitcasts_S32x128_w8_S8x128_w32)
    (bitcast S8x128 32 (pick (zNeg z) ix) bitcasts_S32x128_w8_S8x128_w32))
    (broadcast S8x128 2155905152#32)) bitcasts_S8x128_w32_S32x128_w8 (ix2 a l)).toInt : ℝ) : EReal) = _
  rw [byte_of_word _ _ a l ⟨a.val / 4, hw⟩ rfl]
  have ha : a.val = 4 * (a.val / 4) + a.val % 4 := (Nat.div_add_mod _ _).symm
  show (((((_ + _) ^^^ 0x80808080#32 : BitVec 32).extractLsb' (8 * (a.val % 4)) 8).toInt : ℝ) : EReal) = _
  rw [flip_byte _ _ hb, add_byte _ _ _ (fun b hb' => ?_) hb, word_byte _ _ ⟨a.val / 4, hw⟩ l _ hb a ha,
    word_byte _ _ ⟨a.val / 4, hw⟩ l _ hb a ha, hx a, pick_at _ _ a l g hg hi, zNeg_at, diff_byte _ _ (nib_lt _ _) (zero_lt z g hg l)]
  obtain ⟨p, hp⟩ := row b hb'
  obtain ⟨g', hg', e'⟩ := hz p
  rw [word_byte _ _ ⟨a.val / 4, hw⟩ l _ hb' p hp, word_byte _ _ ⟨a.val / 4, hw⟩ l _ hb' p hp, hx p, e', BitVec.toNat_ofNat, BitVec.toNat_ofNat]
  have := nib_lt (p.val % 2) (q (ix2 ⟨16 * h + p.val / 2, by omega⟩ l))
  omega

/-- The scale put together from its two gathered bytes, read at an element. -/
theorem scale_at (s : IVec S32x128 16) (i2 : IVec S32x128 8) (a : Fin 16) (l : Fin 128) (g : Nat) (hg : g < 32)
    (h0 : i2 (ix2 ⟨2 * a.val, by omega⟩ l) = BitVec.ofNat 8 g) (h1 : i2 (ix2 ⟨2 * a.val + 1, by omega⟩ l) = BitVec.ofNat 8 g) :
    (scale s i2 : FVec F S16x128 .bf16) (ix2 a l) = FloatOps.ofBits .bf16 (s (ix2 ⟨g, hg⟩ l)) := by
  have hk : a.val % 2 < 2 := Nat.mod_lt _ (by decide)
  unfold scale bitcastToFloat
  congr 1
  rw [half_of_word _ _ a l ⟨a.val / 2, by omega⟩ rfl]
  show ((_ &&& 0x00FF00FF#32) ||| (_ &&& 0xFF00FF00#32) : BitVec 32).extractLsb' (16 * (a.val % 2)) 16 = _
  rw [merge_half _ _ _ hk, show 16 * (a.val % 2) + 8 = 8 * (2 * (a.val % 2) + 1) by omega, show 16 * (a.val % 2) = 8 * (2 * (a.val % 2)) by omega,
    word_byte _ _ ⟨a.val / 2, by omega⟩ l _ (by omega) ⟨2 * a.val + 1, by omega⟩ (by show 2 * a.val + 1 = 4 * (a.val / 2) + _; omega),
    word_byte _ _ ⟨a.val / 2, by omega⟩ l _ (by omega) ⟨2 * a.val, by omega⟩ (by show 2 * a.val = 4 * (a.val / 2) + _; omega),
    pick_at _ _ _ l g hg h0, pick_at _ _ _ l g hg h1]
  exact join_bytes _

/-- THE ELEMENT OF A PIECE: the code less the group's zero point, times the group's scale. -/
theorem piece_at (s : IVec S32x128 16) (z : IVec S16x128 8) (q : IVec S32x128 8) (h p : Nat)
    (hs : S64x128.Slices ![32 * h, 0] S32x128) (ps : S32x128.Slices ![16 * p, 0] S16x128) (ix i2 : IVec S32x128 8)
    (hh : h < 2) (hp : p < 2) (a : Fin 16) (l : Fin 128) (g : Nat) (hg : g < 32)
    (hi : ix (ix2 ⟨16 * p + a.val, by omega⟩ l) = BitVec.ofNat 8 g)
    (h0 : i2 (ix2 ⟨2 * a.val, by omega⟩ l) = BitVec.ofNat 8 g) (h1 : i2 (ix2 ⟨2 * a.val + 1, by omega⟩ l) = BitVec.ofNat 8 g) :
    (piece s z q h p hs ps ix i2 : FVec Ideal S16x128 .bf16) (ix2 a l)
      = ((((nib (a.val % 2) (q (ix2 ⟨16 * h + 8 * p + a.val / 2, by omega⟩ l)) : Int) - zero z g hg l : Int) : ℝ) : EReal)
        * Ideal.ofBits .bf16 (s (ix2 ⟨g, hg⟩ l)) := by
  have e : (extractStridedSlice S16x128 ![16 * p, 0] (diff z q h hs ix) ps : FVec Ideal S16x128 .bf16) (ix2 a l)
      = (diff z q h hs ix : FVec Ideal S32x128 .bf16) (ix2 ⟨16 * p + a.val, by omega⟩ l) := by
    unfold extractStridedSlice
    congr 1
    funext c
    match c with
    | ⟨0, _⟩ => rfl
    | ⟨1, _⟩ => exact Fin.ext (Nat.zero_add _)
  unfold piece
  rw [shapeCast_self]
  show (extractStridedSlice S16x128 ![16 * p, 0] (diff z q h hs ix) ps : FVec Ideal S16x128 .bf16) (ix2 a l) * (scale s i2 : FVec Ideal S16x128 .bf16) (ix2 a l) = _
  rw [e, diff_at z q h hs ix hh _ l g hg hi, scale_at s i2 a l g hg h0 h1]
  have e1 : (16 * p + a.val) % 2 = a.val % 2 := by omega
  have e2 : 16 * h + (16 * p + a.val) / 2 = 16 * h + 8 * p + a.val / 2 := by omega
  simp only [e1, e2]
  rfl

end Cert.Int4
-- ==== Proof.Spec.lean ====
module

public import proofs.«01_k».proof.Proof.Bits
public import Idealize.ShloMosaic.Lib.Pointwise

@[expose] public section

/-!
The layer's mathematics, element by element: what both the kernel and the reference are shown to compute.
-/

noncomputable section

namespace Cert.Int4

open Idealize.ShloMosaic

/-- The quantisation group of row `k`, from the array of group numbers. -/
def group (g : IVec ⟨1, ![4096]⟩ 32) (k : Fin 4096) : Fin 32 :=
  ⟨(g (ix1 k)).toNat % 32, Nat.mod_lt _ (by decide)⟩

/-- The zero point of group `g` at column `n`: groups 0 to 15 in the low codes of the packed rows, 16 to 31 in the
    high codes. -/
def zeroPt (z : IVec ⟨2, ![16, 11008]⟩ 8) (g : Fin 32) (n : Fin 11008) : Nat :=
  nib (g.val / 16) (z (ix2 ⟨g.val % 16, Nat.mod_lt _ (by decide)⟩ n))

/-- The dequantised weight at row `k`, column `n`: the code less the group's zero point, times the group's scale.
    Rows are packed two to a byte, the even row in the low code. -/
def weight (q : IVec ⟨2, ![2048, 11008]⟩ 8) (s : IVec ⟨2, ![32, 11008]⟩ 16) (z : IVec ⟨2, ![16, 11008]⟩ 8)
    (g : IVec ⟨1, ![4096]⟩ 32) (k : Fin 4096) (n : Fin 11008) : EReal :=
  ((((nib (k.val % 2) (q (ix2 ⟨k.val / 2, by omega⟩ n)) : Int) - (zeroPt z (group g k) n : Int) : Int) : ℝ) : EReal)
    * Ideal.ofBits .bf16 (s (ix2 (group g k) n))

/-- One row of the activations times one column of the dequantised weights. -/
def linear (x : FVec Ideal ⟨3, ![512, 1, 4096]⟩ .bf16) (q : IVec ⟨2, ![2048, 11008]⟩ 8) (s : IVec ⟨2, ![32, 11008]⟩ 16)
    (z : IVec ⟨2, ![16, 11008]⟩ 8) (g : IVec ⟨1, ![4096]⟩ 32) (b : Fin 512) (n : Fin 11008) : EReal :=
  ∑ k : Fin 4096, (x (ix3 b 0 k) : EReal) * weight q s z g k n

/-- The gate: `v` times its logistic, times `u`. -/
def swiglu (v u : EReal) : EReal := v * Ideal.logistic v * u

/-- The group numbers lie in range. -/
def InRange (g : IVec ⟨1, ![4096]⟩ 32) : Prop := ∀ k : Fin 4096, (g (ix1 k)).toNat < 32

/-- A sum over 4096 rows is the sum over the even rows plus the sum over the odd rows. -/
theorem sum_even_odd (f : Fin 4096 → EReal) :
    ∑ k, f k = ∑ i : Fin 2048, f ⟨2 * i.val, by omega⟩ + ∑ i : Fin 2048, f ⟨2 * i.val + 1, by omega⟩ := by
  rw [← Equiv.sum_comp (finProdFinEquiv (m := 2048) (n := 2)) f, Fintype.sum_prod_type, ← Finset.sum_add_distrib]
  refine Finset.sum_congr rfl fun i _ => ?_
  rw [Fin.sum_univ_two]
  congr 2 <;> (apply Fin.ext; simp [finProdFinEquiv]; try omega)

end Cert.Int4

end
-- ==== Proof.Block.lean ====
module

public import proofs.«01_k».proof.Proof.Gen.KernelIdeal.Skeleton
public import proofs.«01_k».proof.Proof.Dequant
public import proofs.«01_k».proof.Proof.Spec

@[expose] public section

/-!
What one grid point computes from its blocks: 256 columns of the weights and the gated product of them.
-/

noncomputable section

namespace Cert.Int4

open Idealize.ShloMosaic Cert.KernelIdeal Cert.KernelIdeal.Gen

/-- The weight at row `k` and column `n` of a block of 256 columns, from the block's codes, scales and zero points and
    the rows' groups. -/
def blockWeight (q : IVec S2048x256 8) (s : IVec S32x256 16) (z : IVec S16x256 8) (g : Fin 4096 → Fin 32) (k : Fin 4096) (n : Fin 256) : EReal :=
  ((((nib (k.val % 2) (q (ix2 ⟨k.val / 2, by omega⟩ n)) : Int)
      - (nib ((g k).val / 16) (z (ix2 ⟨(g k).val % 16, Nat.mod_lt _ (by decide)⟩ n)) : Int) : Int) : ℝ) : EReal)
    * Ideal.ofBits .bf16 (s (ix2 (g k) n))

/-- The weights of a block as an array. -/
def blockWeights (q : IVec S2048x256 8) (s : IVec S32x256 16) (z : IVec S16x256 8) (g : Fin 4096 → Fin 32) : FVec Ideal S4096x256 .bf16 :=
  fun y => blockWeight q s z g ⟨(y 0).val, (y 0).isLt⟩ ⟨(y 1).val, (y 1).isLt⟩

/-- The kernel's last step at an element. -/
theorem gate_at (x : FVec Ideal S512x4096 .bf16) (A B : FVec Ideal S4096x256 .bf16) (b : Fin 512) (n : Fin 256) :
    (k0_pay1 (F := Ideal) x A x B (ix2 b n) : EReal)
      = swiglu (∑ k : Fin 4096, (x (ix2 b k) : EReal) * A (ix2 k n)) (∑ k : Fin 4096, (x (ix2 b k) : EReal) * B (ix2 k n)) := by
  pointwise [k0_pay1]
  rfl

end Cert.Int4

end
-- ==== Proof.IndexTable.lean ====
module

public import proofs.«01_k».proof.Proof.Gen.KernelIdeal
public import proofs.«01_k».proof.Proof.Bits
public import Idealize.ShloMosaic.Lib.Pipeline.Value
public import Idealize.ShloMosaic.Lib.Pointwise

@[expose] public section

/-!
The kernel's two tables of group numbers, which the first grid point builds: one byte a row, and each byte twice.
-/

noncomputable section

namespace Cert.Int4

open Idealize.ShloMosaic Cert.KernelIdeal Cert.KernelIdeal.Gen

/-- 128 group numbers as a column, spread over 128 lanes. -/
def column (t : IVec S1x128 32) : IVec S128x128 32 :=
  transpose S128x128 [1, 0] (broadcastTo S128x128 (shapeCast S1x128 (shapeCast S1x128 t shapeCasts_S1x128_S1x128) shapeCasts_S1x128_S1x128)
    broadcasts_S1x128_S128x128) transposes_S128x128_p1_0_S128x128

/-- 128 rows of the first table. -/
def table (t : IVec S1x128 32) : IVec S128x128 8 :=
  shapeCast S128x128 (trunci 8 (column t) natLt_8_32) shapeCasts_S128x128_S128x128

/-- 256 rows of the second table. -/
def table2 (t : IVec S1x128 32) : IVec S256x128 8 :=
  shapeCast S256x128 (bitcast S256x128 8 (bitcast S64x128 32 (trunci 16 (muli (column t) (broadcast S128x128 257#32)) natLt_16_32)
    bitcasts_S128x128_w16_S64x128_w32) bitcasts_S64x128_w32_S256x128_w8) shapeCasts_S256x128_S256x128

/-- The row of group numbers turned into a column and repeated over the lanes. -/
theorem column_at (t : IVec S1x128 32) (r l : Fin 128) : column t (ix2 r l) = t (ix2 0 r) := by
  pointwise [column]

/-- A block of the first table holds the row's group in every lane. -/
theorem table_at (t : IVec S1x128 32) (r l : Fin 128) (g : Nat) (h : t (ix2 0 r) = BitVec.ofNat 32 g) (hg : g < 32) :
    table t (ix2 r l) = BitVec.ofNat 8 g := by
  have e : ∀ g < 32, (BitVec.ofNat 32 g).setWidth 8 = BitVec.ofNat 8 g := by decide
  unfold table
  rw [shapeCast_self]
  show (column t (ix2 r l)).setWidth 8 = _
  rw [column_at, h, e g hg]

/-- A block of the second table holds each row's group in two consecutive rows. -/
theorem table2_at (t : IVec S1x128 32) (r : Fin 256) (l : Fin 128) (g : Nat) (h : t (ix2 0 ⟨r.val / 2, by omega⟩) = BitVec.ofNat 32 g)
    (hg : g < 32) : table2 t (ix2 r l) = BitVec.ofNat 8 g := by
  have e : ∀ g < 32, ∀ k < 2, ((BitVec.ofNat 32 g * 257#32).setWidth 16).extractLsb' (8 * k) 8 = BitVec.ofNat 8 g := by decide
  unfold table2
  rw [shapeCast_self, byte_of_half _ _ _ r l (by omega) ⟨r.val / 2, by omega⟩ rfl]
  show ((column t (ix2 ⟨r.val / 2, _⟩ l) * 257#32).setWidth 16).extractLsb' _ 8 = _
  rw [column_at, h]
  exact e g hg _ (Nat.mod_lt _ (by decide))

end Cert.Int4

end
-- ==== Proof.Pieces.lean ====
module

public import proofs.«01_k».proof.Proof.Gen.KernelIdeal.Frame.RunA
public import proofs.«01_k».proof.Proof.Block
public import proofs.«01_k».proof.Proof.IndexTable

@[expose] public section

/-!
The rows that one grid point stores, listed by a rule: sixteen rows of 128 columns of weights at a time, and 128 rows of
the first table and 256 of the second.
-/

noncomputable section

namespace Cert.Int4

open Idealize.ShloMosaic Idealize.ShloMosaic.TcCoe Cert.KernelIdeal Cert.KernelIdeal.Gen

variable {F : FTy → Type} [FloatOps F]

/-- `f (n-1), …, f 1, f 0`. -/
def downFrom {α : Type} {N : Nat} (f : Fin N → α) : (n : Nat) → n ≤ N → List α
  | 0, _ => []
  | n + 1, h => f ⟨n, h⟩ :: downFrom f n (Nat.le_of_succ_le h)

/-- What is in the list is some `f i`. -/
theorem mem_downFrom {α : Type} {N : Nat} (f : Fin N → α) (a : α) : ∀ (n : Nat) (h : n ≤ N), a ∈ downFrom f n h → ∃ i, a = f i
  | 0, _, hm => absurd hm List.not_mem_nil
  | n + 1, h, hm => by
    rcases List.mem_cons.mp hm with rfl | hm
    · exact ⟨_, rfl⟩
    · exact mem_downFrom f a n _ hm

/-- Every `f i` with `i < n` is in the list. -/
theorem downFrom_mem {α : Type} {N : Nat} (f : Fin N → α) : ∀ (n : Nat) (h : n ≤ N) (i : Fin N), i.val < n → f i ∈ downFrom f n h
  | n + 1, h, i, hi => by
    by_cases he : i.val = n
    · obtain ⟨i, hi'⟩ := i
      cases he
      exact List.mem_cons_self
    · exact List.mem_cons_of_mem _ (downFrom_mem f n _ i (by omega))

/-- The `n`-th sixteen rows of weights stored: rows from `16 (n % 256)`, columns from `128 (n / 256)`. Which rows of the
    codes, scales, zero points and tables it reads is left to the loads it is given. -/
def weightPiece (S : Fin 2 → IVec S32x128 16) (Z : Fin 2 → IVec S16x128 8) (Q : Fin 2 → Fin 64 → IVec S32x128 8)
    (I : Fin 128 → IVec S32x128 8) (J : Fin 256 → IVec S32x128 8) (n : Fin 512) : View.Piece (Elt F) S4096x256 .bf16 :=
  ⟨Rect.unit ![16 * (n.val % 256), 128 * (n.val / 256)] S16x128.size (by
      intro a
      match a with
      | ⟨0, _⟩ => show 16 * (n.val % 256) + 16 ≤ 4096; omega
      | ⟨1, _⟩ => show 128 * (n.val / 256) + 128 ≤ 256; omega),
    piece (S ⟨n.val / 256, by omega⟩) (Z ⟨n.val / 256, by omega⟩) (Q ⟨n.val / 256, by omega⟩ ⟨n.val % 256 / 4, by omega⟩)
      (n.val / 2 % 2) (n.val % 2)
      ⟨rfl, by
        intro a
        match a with
        | ⟨0, _⟩ => show 32 * (n.val / 2 % 2) + 32 ≤ 64; omega
        | ⟨1, _⟩ => show 0 + 128 ≤ 128; omega⟩
      ⟨rfl, by
        intro a
        match a with
        | ⟨0, _⟩ => show 16 * (n.val % 2) + 16 ≤ 32; omega
        | ⟨1, _⟩ => show 0 + 128 ≤ 128; omega⟩
      (I ⟨n.val % 256 / 2, by omega⟩) (J ⟨n.val % 256, by omega⟩)⟩

/-- 128 rows of the first table stored, and 256 of the second, from one row of the group numbers. -/
def tablePiece (T : Fin 32 → IVec S1x128 32) (n : Fin 32) : View.Piece (Elt F) S4096x128 .i8 :=
  ⟨Rect.unit ![128 * n.val, 0] S128x128.size (by
      intro a
      match a with
      | ⟨0, _⟩ => show 128 * n.val + 128 ≤ 4096; omega
      | ⟨1, _⟩ => show 0 + 128 ≤ 128; omega), table (T n)⟩

/-- The rows of the second table that block `n` of the group numbers fills. -/
def table2Piece (T : Fin 32 → IVec S1x128 32) (n : Fin 32) : View.Piece (Elt F) S8192x128 .i8 :=
  ⟨Rect.unit ![256 * n.val, 0] S256x128.size (by
      intro a
      match a with
      | ⟨0, _⟩ => show 256 * n.val + 256 ≤ 8192; omega
      | ⟨1, _⟩ => show 0 + 128 ≤ 128; omega), table2 (T n)⟩

/-! ## The boxes that the loads read -/

/-- Half `c` of the columns of the scales. -/
def boxS (c : Fin 2) : Rect S32x256 := Rect.unit ![0, 128 * c.val] S32x128.size (by
  intro a
  match a with
  | ⟨0, _⟩ => show 0 + 32 ≤ 32; omega
  | ⟨1, _⟩ => show 128 * c.val + 128 ≤ 256; omega)

/-- Half `c` of the columns of the zero points. -/
def boxZ (c : Fin 2) : Rect S16x256 := Rect.unit ![0, 128 * c.val] S16x128.size (by
  intro a
  match a with
  | ⟨0, _⟩ => show 0 + 16 ≤ 16; omega
  | ⟨1, _⟩ => show 128 * c.val + 128 ≤ 256; omega)

/-- Rows `32 i` to `32 i + 31` of half `c` of the columns of the packed codes. -/
def boxQ (c : Fin 2) (i : Fin 64) : Rect S2048x256 := Rect.unit ![32 * i.val, 128 * c.val] S32x128.size (by
  intro a
  match a with
  | ⟨0, _⟩ => show 32 * i.val + 32 ≤ 2048; omega
  | ⟨1, _⟩ => show 128 * c.val + 128 ≤ 256; omega)

/-- Rows `32 r` to `32 r + 31` of the first table. -/
def boxI (r : Fin 128) : Rect S4096x128 := Rect.unit ![32 * r.val, 0] S32x128.size (by
  intro a
  match a with
  | ⟨0, _⟩ => show 32 * r.val + 32 ≤ 4096; omega
  | ⟨1, _⟩ => show 0 + 128 ≤ 128; omega)

/-- Rows `32 r` to `32 r + 31` of the second table. -/
def boxJ (r : Fin 256) : Rect S8192x128 := Rect.unit ![32 * r.val, 0] S32x128.size (by
  intro a
  match a with
  | ⟨0, _⟩ => show 32 * r.val + 32 ≤ 8192; omega
  | ⟨1, _⟩ => show 0 + 128 ≤ 128; omega)

/-- Row `r` of the group numbers. -/
def boxT (r : Fin 32) : Rect S32x128 := Rect.unit ![r.val, 0] S1x128.size (by
  intro a
  match a with
  | ⟨0, _⟩ => show r.val + 1 ≤ 32; omega
  | ⟨1, _⟩ => show 0 + 128 ≤ 128; omega)

end Cert.Int4

end
-- ==== Proof.Weights.lean ====
module

public import proofs.«01_k».proof.Proof.Pieces

@[expose] public section

/-!
The rows stored, read back: the block's weights, and the two tables of group numbers.
-/

noncomputable section

namespace Cert.Int4

open Idealize.ShloMosaic Idealize.ShloMosaic.TcCoe Cert.KernelIdeal Cert.KernelIdeal.Gen

section weights

variable (q : IVec S2048x256 8) (s : IVec S32x256 16) (z : IVec S16x256 8) (g : Fin 4096 → Fin 32)
  (S : Fin 2 → IVec S32x128 16) (Z : Fin 2 → IVec S16x128 8) (Q : Fin 2 → Fin 64 → IVec S32x128 8)
  (I : Fin 128 → IVec S32x128 8) (J : Fin 256 → IVec S32x128 8)

/-- The loads hold the block's scales, zero points and codes, and the rows' groups. -/
structure Loads : Prop where
  scales : ∀ c r l, S c (ix2 r l) = s (ix2 r ⟨128 * c.val + l.val, by omega⟩)
  zeros : ∀ c r l, Z c (ix2 r l) = z (ix2 r ⟨128 * c.val + l.val, by omega⟩)
  codes : ∀ c i r l, Q c i (ix2 r l) = q (ix2 ⟨32 * i.val + r.val, by omega⟩ ⟨128 * c.val + l.val, by omega⟩)
  table : ∀ r a l, I r (ix2 a l) = BitVec.ofNat 8 (g ⟨32 * r.val + a.val, by omega⟩).val
  table2 : ∀ r a l, J r (ix2 a l) = BitVec.ofNat 8 (g ⟨16 * r.val + a.val / 2, by omega⟩).val

variable {q s z g S Z Q I J}

/-- A stored piece of weights, read at an element, is the block's weight there. -/
theorem weightPiece_at (hl : Loads q s z g S Z Q I J) (n : Fin 512) (a : Fin 16) (l : Fin 128) :
    ((weightPiece (F := Ideal) S Z Q I J n).2 (ix2 a l) : EReal)
      = blockWeight q s z g ⟨16 * (n.val % 256) + a.val, by omega⟩ ⟨128 * (n.val / 256) + l.val, by omega⟩ := by
  have hk : ∀ (k k' : Fin 4096), k.val = k'.val → (g k).val = (g k').val := fun k k' h => by rw [Fin.ext h]
  refine (piece_at _ _ _ _ _ _ _ _ _ (by omega) (by omega) a l (g ⟨16 * (n.val % 256) + a.val, by omega⟩).val (g _).isLt ?_ ?_ ?_).trans ?_
  · rw [hl.table]
    exact congrArg (BitVec.ofNat 8) (hk _ _ (by show 32 * (n.val % 256 / 2) + (16 * (n.val % 2) + a.val) = 16 * (n.val % 256) + a.val; omega))
  · rw [hl.table2]
    exact congrArg (BitVec.ofNat 8) (hk _ _ (by show 16 * (n.val % 256) + (2 * a.val) / 2 = 16 * (n.val % 256) + a.val; omega))
  · rw [hl.table2]
    exact congrArg (BitVec.ofNat 8) (hk _ _ (by show 16 * (n.val % 256) + (2 * a.val + 1) / 2 = 16 * (n.val % 256) + a.val; omega))
  · unfold zero blockWeight
    rw [hl.scales, hl.zeros, hl.codes]
    have e1 : a.val % 2 = (16 * (n.val % 256) + a.val) % 2 := by omega
    have e2 : 32 * (n.val % 256 / 4) + (16 * (n.val / 2 % 2) + 8 * (n.val % 2) + a.val / 2) = (16 * (n.val % 256) + a.val) / 2 := by omega
    simp only [← e1, e2]

/-- The rows stored, read back, are the block's weights. -/
theorem canon_weights (hl : Loads q s z g S Z Q I J) :
    View.canon (downFrom (weightPiece (F := Ideal) S Z Q I J) 512 (Nat.le_refl _)) = blockWeights q s z g := by
  funext y
  refine View.canon_apply_of_pieces _ _ ?_ y ?_
  · intro p hp x
    obtain ⟨n, rfl⟩ := mem_downFrom _ _ _ _ hp
    obtain ⟨a, l, rfl⟩ : ∃ (a : Fin 16) (l : Fin 128), x = ix2 a l := ⟨x 0, x 1, eq_ix2 x⟩
    refine (weightPiece_at hl n a l).trans ?_
    unfold blockWeights
    congr 1
    · exact Fin.ext (by show 16 * (n.val % 256) + a.val = 16 * (n.val % 256) + 1 * a.val; omega)
    · exact Fin.ext (by show 128 * (n.val / 256) + l.val = 128 * (n.val / 256) + 1 * l.val; omega)
  · obtain ⟨k, c, rfl⟩ : ∃ (k : Fin 4096) (c : Fin 256), y = ix2 k c := ⟨y 0, y 1, eq_ix2 y⟩
    refine ⟨_, downFrom_mem _ 512 _ ⟨c.val / 128 * 256 + k.val / 16, by omega⟩ (by show _ < 512; omega), ?_⟩
    have h1 : (c.val / 128 * 256 + k.val / 16) % 256 = k.val / 16 := by omega
    have h2 : (c.val / 128 * 256 + k.val / 16) / 256 = c.val / 128 := by omega
    unfold weightPiece
    rw [Rect.mem_set_unit]
    intro a
    match a with
    | ⟨0, _⟩ =>
      show 16 * ((c.val / 128 * 256 + k.val / 16) % 256) ≤ k.val ∧ k.val < 16 * ((c.val / 128 * 256 + k.val / 16) % 256) + 16
      omega
    | ⟨1, _⟩ =>
      show 128 * ((c.val / 128 * 256 + k.val / 16) / 256) ≤ c.val ∧ c.val < 128 * ((c.val / 128 * 256 + k.val / 16) / 256) + 128
      omega

end weights

section tables

variable {T : Fin 32 → IVec S1x128 32} {g : Fin 4096 → Fin 32}

/-- The loads hold the rows' groups, 128 to a row. -/
def Groups (T : Fin 32 → IVec S1x128 32) (g : Fin 4096 → Fin 32) : Prop :=
  ∀ (r : Fin 32) (l : Fin 128), T r (ix2 0 l) = BitVec.ofNat 32 (g ⟨128 * r.val + l.val, by omega⟩).val

/-- The first table: every lane of row `k` holds row `k`'s group. -/
def tableOf (g : Fin 4096 → Fin 32) : Vec Ideal S4096x128 .i8 :=
  fun y => (BitVec.ofNat 8 (g ⟨(y 0).val, (y 0).isLt⟩).val : BitVec 8)

/-- The second table: every lane of rows `2 k` and `2 k + 1` holds row `k`'s group. -/
def table2Of (g : Fin 4096 → Fin 32) : Vec Ideal S8192x128 .i8 :=
  fun y => (BitVec.ofNat 8 (g ⟨(y 0).val / 2, by have : (y 0).val < 8192 := (y 0).isLt; omega⟩).val : BitVec 8)

/-- The first table, read back: every lane of row `k` holds row `k`'s group. -/
theorem canon_table (h : Groups T g) :
    View.canon (downFrom (tablePiece (F := Ideal) T) 32 (Nat.le_refl _))
      = tableOf g := by
  funext y
  refine View.canon_apply_of_pieces (tableOf g) _ ?_ y ?_
  · intro p hp x
    obtain ⟨n, rfl⟩ := mem_downFrom _ _ _ _ hp
    obtain ⟨r, l, rfl⟩ : ∃ (r : Fin 128) (l : Fin 128), x = ix2 r l := ⟨x 0, x 1, eq_ix2 x⟩
    refine (table_at (T n) r l _ (h n r) (g _).isLt).trans ?_
    have e : (⟨128 * n.val + r.val, by omega⟩ : Fin 4096) = ⟨128 * n.val + 1 * r.val, by omega⟩ := Fin.ext (by show _ + _ = _ + _; omega)
    exact congrArg (fun k => BitVec.ofNat 8 (g k).val) e
  · obtain ⟨k, c, rfl⟩ : ∃ (k : Fin 4096) (c : Fin 128), y = ix2 k c := ⟨y 0, y 1, eq_ix2 y⟩
    refine ⟨_, downFrom_mem _ 32 _ ⟨k.val / 128, by omega⟩ (by show _ < 32; omega), ?_⟩
    unfold tablePiece
    rw [Rect.mem_set_unit]
    intro a
    match a with
    | ⟨0, _⟩ =>
      show 128 * (k.val / 128) ≤ k.val ∧ k.val < 128 * (k.val / 128) + 128
      omega
    | ⟨1, _⟩ =>
      show 0 ≤ c.val ∧ c.val < 0 + 128
      omega

/-- The second table, read back: rows `2 k` and `2 k + 1` hold row `k`'s group. -/
theorem canon_table2 (h : Groups T g) :
    View.canon (downFrom (table2Piece (F := Ideal) T) 32 (Nat.le_refl _))
      = table2Of g := by
  funext y
  refine View.canon_apply_of_pieces (table2Of g) _ ?_ y ?_
  · intro p hp x
    obtain ⟨n, rfl⟩ := mem_downFrom _ _ _ _ hp
    obtain ⟨r, l, rfl⟩ : ∃ (r : Fin 256) (l : Fin 128), x = ix2 r l := ⟨x 0, x 1, eq_ix2 x⟩
    refine (table2_at (T n) r l _ (h n ⟨r.val / 2, by omega⟩) (g _).isLt).trans ?_
    have e : (⟨128 * n.val + r.val / 2, by omega⟩ : Fin 4096) = ⟨(256 * n.val + 1 * r.val) / 2, by omega⟩ := Fin.ext (by show _ + _ = _ / _; omega)
    exact congrArg (fun k => BitVec.ofNat 8 (g k).val) e
  · obtain ⟨k, c, rfl⟩ : ∃ (k : Fin 8192) (c : Fin 128), y = ix2 k c := ⟨y 0, y 1, eq_ix2 y⟩
    refine ⟨_, downFrom_mem _ 32 _ ⟨k.val / 256, by omega⟩ (by show _ < 32; omega), ?_⟩
    unfold table2Piece
    rw [Rect.mem_set_unit]
    intro a
    match a with
    | ⟨0, _⟩ =>
      show 256 * (k.val / 256) ≤ k.val ∧ k.val < 256 * (k.val / 256) + 256
      omega
    | ⟨1, _⟩ =>
      show 0 ≤ c.val ∧ c.val < 0 + 128
      omega

end tables

end Cert.Int4

end
-- ==== Proof.Points.lean ====
module

public import proofs.«01_k».proof.Proof.Gen.KernelIdeal.Frame
public import proofs.«01_k».proof.Proof.Weights
public import Idealize.ShloMosaic.Lib.WholeRead
public import Idealize.ShloMosaic.Lib.Pipeline.Value

@[expose] public section

/-!
What a grid point leaves, in each of the kernel's two cases: the gated product of the block's two sets of weights, and
(at the first point) the two tables of group numbers.
-/

noncomputable section

namespace Cert.Int4

open Idealize.ShloMosaic Idealize.ShloMosaic.TcCoe Cert.KernelIdeal Cert.KernelIdeal.Gen Idealize.ShloMosaic.Tactic

/-! ## Loads -/

section loads

variable {g : Fin 4096 → Fin 32} (c : Dev nD)
  (arg2 : Memref sig .tc .vmem S32x128 .i32) (harg2 : arg2.IsWhole)
  (arg3 : Memref sig .tc .vmem S2048x256 .i8) (harg3 : arg3.IsWhole)
  (arg5 : Memref sig .tc .vmem S32x256 .i16) (harg5 : arg5.IsWhole)
  (arg7 : Memref sig .tc .vmem S16x256 .i8) (harg7 : arg7.IsWhole)
  (arg10 : Memref sig .tc .vmem S4096x128 .i8) (harg10 : arg10.IsWhole)
  (arg11 : Memref sig .tc .vmem S8192x128 .i8) (harg11 : arg11.IsWhole)
  (x1 : Vec Ideal S32x128 .i32) (x2 : Vec Ideal S2048x256 .i8) (x4 : Vec Ideal S32x256 .i16) (x6 : Vec Ideal S16x256 .i8)

/-- The rows of group numbers loaded. -/
def loadT (r : Fin 32) : IVec S1x128 32 := View.readAt (Elt Ideal) arg2.view (boxT r).toLoadRect (harg2.unread x1)

/-- The group numbers that a 32 by 128 block holds. -/
def GroupsOf (x1 : Vec Ideal S32x128 .i32) (g : Fin 4096 → Fin 32) : Prop :=
  ∀ (r : Fin 32) (l : Fin 128), (x1 (ix2 r l) : BitVec 32) = BitVec.ofNat 32 (g ⟨128 * r.val + l.val, by omega⟩).val

/-- The rows loaded hold the rows' groups. -/
theorem groups_load (h : GroupsOf x1 g) : Groups (loadT arg2 harg2 x1) g := by
  intro r l
  refine (harg2.readAt_unread x1 _ _).trans ?_
  refine Eq.trans (congrArg x1 ?_) (h r l)
  funext a
  match a with
  | ⟨0, _⟩ => exact Fin.ext (by show r.val + 1 * 0 = r.val; omega)
  | ⟨1, _⟩ => exact Fin.ext (by show 0 + 1 * l.val = l.val; omega)

/-- The scales loaded, by halves of the columns. -/
def loadS (i : Fin 2) : IVec S32x128 16 := View.readAt (Elt Ideal) arg5.view (boxS i).toLoadRect (harg5.unread x4)
/-- The zero points loaded, by halves of the columns. -/
def loadZ (i : Fin 2) : IVec S16x128 8 := View.readAt (Elt Ideal) arg7.view (boxZ i).toLoadRect (harg7.unread x6)
/-- The packed codes loaded, 32 rows at a time. -/
def loadQ (i : Fin 2) (j : Fin 64) : IVec S32x128 8 := View.readAt (Elt Ideal) arg3.view (boxQ i j).toLoadRect (harg3.unread x2)

/-- A point's loads hold what its blocks and the two tables hold. -/
theorem loads_of (I : Fin 128 → IVec S32x128 8) (J : Fin 256 → IVec S32x128 8)
    (hI : ∀ r, I r = fun y => (tableOf g ((boxI r).idx y) : BitVec 8))
    (hJ : ∀ r, J r = fun y => (table2Of g ((boxJ r).idx y) : BitVec 8)) :
    Loads x2 x4 x6 g (loadS arg5 harg5 x4) (loadZ arg7 harg7 x6) (loadQ arg3 harg3 x2) I J where
  scales i r l := by
    refine (harg5.readAt_unread x4 _ _).trans (congrArg x4 ?_)
    funext a
    match a with
    | ⟨0, _⟩ => exact Fin.ext (by show 0 + 1 * r.val = r.val; omega)
    | ⟨1, _⟩ => exact Fin.ext (by show 128 * i.val + 1 * l.val = 128 * i.val + l.val; omega)
  zeros i r l := by
    refine (harg7.readAt_unread x6 _ _).trans (congrArg x6 ?_)
    funext a
    match a with
    | ⟨0, _⟩ => exact Fin.ext (by show 0 + 1 * r.val = r.val; omega)
    | ⟨1, _⟩ => exact Fin.ext (by show 128 * i.val + 1 * l.val = 128 * i.val + l.val; omega)
  codes i j r l := by
    refine (harg3.readAt_unread x2 _ _).trans (congrArg x2 ?_)
    funext a
    match a with
    | ⟨0, _⟩ => exact Fin.ext (by show 32 * j.val + 1 * r.val = 32 * j.val + r.val; omega)
    | ⟨1, _⟩ => exact Fin.ext (by show 128 * i.val + 1 * l.val = 128 * i.val + l.val; omega)
  table r a l := by
    rw [hI]
    exact congrArg (fun k => BitVec.ofNat 8 (g k).val) (Fin.ext (by show 32 * r.val + 1 * a.val = 32 * r.val + a.val; omega))
  table2 r a l := by
    rw [hJ]
    exact congrArg (fun k => BitVec.ofNat 8 (g k).val) (Fin.ext (by show (32 * r.val + 1 * a.val) / 2 = 16 * r.val + a.val / 2; omega))

/-- The rows of weights a point stores when it has built the tables itself. -/
def listA : List (View.Piece (Elt Ideal) S4096x256 .bf16) :=
  downFrom (weightPiece (F := Ideal) (loadS arg5 harg5 x4) (loadZ arg7 harg7 x6) (loadQ arg3 harg3 x2)
    (fun r => arg10.view.readCov (Val := Elt Ideal) (downFrom (tablePiece (F := Ideal) (loadT arg2 harg2 x1)) 32 (Nat.le_refl _)) (boxI r).toLoadRect)
    (fun r => arg11.view.readCov (Val := Elt Ideal) (downFrom (table2Piece (F := Ideal) (loadT arg2 harg2 x1)) 32 (Nat.le_refl _)) (boxJ r).toLoadRect)) 512 (Nat.le_refl _)

/-- Those rows, read back, are the block's weights. -/
theorem canon_listA (h : GroupsOf x1 g) :
    View.canon (listA arg2 harg2 arg3 harg3 arg5 harg5 arg7 harg7 arg10 arg11 x1 x2 x4 x6) = blockWeights x2 x4 x6 g :=
  canon_weights (loads_of _ _ _ _ _ _ _ _ _ _ _
    (fun r => by rw [View.readCov_eq_canon', canon_table (groups_load _ _ _ h)])
    (fun r => by rw [View.readCov_eq_canon', canon_table2 (groups_load _ _ _ h)]))

/-- The rows of weights a point stores when the tables are carried. -/
def listB (xs0 : Vec Ideal S4096x128 .i8) (xs1 : Vec Ideal S8192x128 .i8) : List (View.Piece (Elt Ideal) S4096x256 .bf16) :=
  downFrom (weightPiece (F := Ideal) (loadS arg5 harg5 x4) (loadZ arg7 harg7 x6) (loadQ arg3 harg3 x2)
    (fun r => View.readAt (Elt Ideal) arg10.view (boxI r).toLoadRect (harg10.unread xs0))
    (fun r => View.readAt (Elt Ideal) arg11.view (boxJ r).toLoadRect (harg11.unread xs1))) 512 (Nat.le_refl _)

/-- Those rows, read back, are the block's weights, if the carried tables hold the rows' groups. -/
theorem canon_listB :
    View.canon (listB arg3 harg3 arg5 harg5 arg7 harg7 arg10 harg10 arg11 harg11 x2 x4 x6 (tableOf g) (table2Of g)) = blockWeights x2 x4 x6 g :=
  canon_weights (loads_of _ _ _ _ _ _ _ _ _ _ _
    (fun r => funext fun y => harg10.readAt_unread (tableOf g) _ y)
    (fun r => funext fun y => harg11.readAt_unread (table2Of g) _ y))

end loads

/-- A load of the whole of a buffer that stores filled reads what they left. -/
theorem readCov_all {s : Shape} {e : EltTy} (v : View sig .tc .vmem s e) (L : List (View.Piece (Elt Ideal) s e)) (off : Fin s.rank → Nat)
    (h : off = fun _ => 0) (inb : ∀ a, off a + s.size a ≤ s.size a) :
    v.readCov L (Rect.unit off s.size inb).toLoadRect = View.canon L := by
  subst h
  rw [View.readCov_eq_canon']
  funext j
  refine congrArg (View.canon L) ?_
  funext a
  exact Fin.ext (by show 0 + 1 * (j a).val = (j a).val; omega)

/-- A load of the whole of an input block reads the block. -/
theorem readAt_all {s : Shape} {e : EltTy} (m : Memref sig .tc .vmem s e) (hm : m.IsWhole) (X : s.Idx → Elt Ideal e) (off : Fin s.rank → Nat)
    (h : off = fun _ => 0) (inb : ∀ a, off a + s.size a ≤ s.size a) :
    View.readAt (Elt Ideal) m.view (Rect.unit off s.size inb).toLoadRect (hm.unread X) = X := by
  subst h
  funext j
  refine (hm.readAt_unread X _ j).trans (congrArg X ?_)
  funext a
  exact Fin.ext (by show 0 + 1 * (j a).val = (j a).val; omega)

/-! ## The two cases -/

section cases

variable (c : Dev nD) (i : grid0.Coords) (arg1 : Memref sig .tc .vmem S512x4096 .bf16) (harg1 : arg1.IsWhole)
  (arg2 : Memref sig .tc .vmem S32x128 .i32) (harg2 : arg2.IsWhole)
  (arg3 : Memref sig .tc .vmem S2048x256 .i8) (harg3 : arg3.IsWhole) (arg4 : Memref sig .tc .vmem S2048x256 .i8) (harg4 : arg4.IsWhole)
  (arg5 : Memref sig .tc .vmem S32x256 .i16) (harg5 : arg5.IsWhole) (arg6 : Memref sig .tc .vmem S32x256 .i16) (harg6 : arg6.IsWhole)
  (arg7 : Memref sig .tc .vmem S16x256 .i8) (harg7 : arg7.IsWhole) (arg8 : Memref sig .tc .vmem S16x256 .i8) (harg8 : arg8.IsWhole)
  (arg9 : Memref sig .tc .vmem S512x256 .bf16) (harg9 : arg9.IsWhole)
  (arg10 : Memref sig .tc .vmem S4096x128 .i8) (harg10 : arg10.IsWhole) (arg11 : Memref sig .tc .vmem S8192x128 .i8) (harg11 : arg11.IsWhole)
  (arg12 : Memref sig .tc .vmem S4096x256 .bf16) (harg12 : arg12.IsWhole) (arg13 : Memref sig .tc .vmem S4096x256 .bf16) (harg13 : arg13.IsWhole)
  (x0 : Vec Ideal S512x4096 .bf16) (x1 : Vec Ideal S32x128 .i32) (x2 : Vec Ideal S2048x256 .i8) (x3 : Vec Ideal S2048x256 .i8)
  (x4 : Vec Ideal S32x256 .i16) (x5 : Vec Ideal S32x256 .i16) (x6 : Vec Ideal S16x256 .i8) (x7 : Vec Ideal S16x256 .i8)
  {g : Fin 4096 → Fin 32}

/-- The output piece of a point, from the lists of weights it stored. -/
def outPiece (L L' : List (View.Piece (Elt Ideal) S4096x256 .bf16)) : View.Piece (Elt Ideal) S512x256 .bf16 :=
  ⟨Rect.unit ![0, 0] S512x256.size inb_S512x256_S512x256_0_0,
    k0_pay1 (F := Ideal)
      (shapeCast S512x4096 (View.readAt (Elt Ideal) arg1.view (Rect.unit ![0, 0] S512x4096.size inb_S512x4096_S512x4096_0_0).toLoadRect (harg1.unread x0))
        shapeCasts_S512x4096_S512x4096)
      (arg12.view.readCov L (Rect.unit ![0, 0] S4096x256.size inb_S4096x256_S4096x256_0_0).toLoadRect)
      (View.readAt (Elt Ideal) arg1.view (Rect.unit ![0, 0] S512x4096.size inb_S512x4096_S512x4096_0_0).toLoadRect (harg1.unread x0))
      (arg13.view.readCov L' (Rect.unit ![0, 0] S4096x256.size inb_S4096x256_S4096x256_0_0).toLoadRect)⟩

/-- The output piece, read back: the gated product of the activations with the two arrays of weights. -/
theorem canon_out (L L' : List (View.Piece (Elt Ideal) S4096x256 .bf16)) :
    View.canon [outPiece arg1 harg1 arg12 arg13 x0 L L'] = k0_pay1 (F := Ideal) x0 (View.canon L) x0 (View.canon L') := by
  have h0 : (![0, 0] : Fin 2 → Nat) = fun _ => 0 := by
    funext a
    match a with
    | ⟨0, _⟩ => rfl
    | ⟨1, _⟩ => rfl
  unfold outPiece
  rw [View.canon_unit_zero h0, readCov_all _ _ _ h0, readCov_all _ _ _ h0, readAt_all _ _ _ _ h0,
    show shapeCast S512x4096 x0 shapeCasts_S512x4096_S512x4096 = x0 from shapeCast_self x0 _]

/-- What the first point stores to the output block. -/
theorem pieces_A (hc0 : cond0_0 i) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1
      = [outPiece arg1 harg1 arg12 arg13 x0 (listA arg2 harg2 arg3 harg3 arg5 harg5 arg7 harg7 arg10 arg11 x1 x2 x4 x6)
          (listA arg2 harg2 arg4 harg4 arg6 harg6 arg8 harg8 arg10 arg11 x1 x3 x5 x7)] := by
  sl_kernel_rfl

/-- What the first point stores to the first table. -/
theorem table_A (hc0 : cond0_0 i) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1
      = downFrom (tablePiece (F := Ideal) (loadT arg2 harg2 x1)) 32 (Nat.le_refl _) := by
  sl_kernel_rfl

/-- What the first point stores to the second table. -/
theorem table2_A (hc0 : cond0_0 i) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1
      = downFrom (table2Piece (F := Ideal) (loadT arg2 harg2 x1)) 32 (Nat.le_refl _) := by
  sl_kernel_rfl

/-- What a later point stores to the output block. -/
theorem pieces_B (hc0 : ¬cond0_0 i) (xs0 : Vec Ideal S4096x128 .i8) (xs1 : Vec Ideal S8192x128 .i8) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1).1
      = [outPiece arg1 harg1 arg12 arg13 x0 (listB arg3 harg3 arg5 harg5 arg7 harg7 arg10 harg10 arg11 harg11 x2 x4 x6 xs0 xs1)
          (listB arg4 harg4 arg6 harg6 arg8 harg8 arg10 harg10 arg11 harg11 x3 x5 x7 xs0 xs1)] := by
  sl_kernel_rfl

/-- The first point's output block. -/
theorem out_A (hc0 : cond0_0 i) (h : GroupsOf x1 g) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7
      = k0_pay1 (F := Ideal) x0 (blockWeights x2 x4 x6 g) x0 (blockWeights x3 x5 x7 g) := by
  unfold out0_A_8
  rw [View.read_writes_junk_eq_canon, pieces_A, canon_out, canon_listA _ _ _ _ _ _ _ _ _ _ _ _ _ _ h, canon_listA _ _ _ _ _ _ _ _ _ _ _ _ _ _ h]

/-- The first table as the first point leaves it. -/
theorem sout_A_0 (hc0 : cond0_0 i) (h : GroupsOf x1 g) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7
      = tableOf g := by
  unfold sout0_A_0
  rw [View.read_writes_junk_eq_canon, table_A, canon_table (groups_load _ _ _ h)]

/-- The second table as the first point leaves it. -/
theorem sout_A_1 (hc0 : cond0_0 i) (h : GroupsOf x1 g) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7
      = table2Of g := by
  unfold sout0_A_1
  rw [View.read_writes_junk_eq_canon, table2_A, canon_table2 (groups_load _ _ _ h)]

/-- A later point's output block, the tables carried. -/
theorem out_B (hc0 : ¬cond0_0 i) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (tableOf g) (table2Of g)
      = k0_pay1 (F := Ideal) x0 (blockWeights x2 x4 x6 g) x0 (blockWeights x3 x5 x7 g) := by
  unfold out0_B_8
  rw [View.read_writes_junk_eq_canon, pieces_B, canon_out, canon_listB, canon_listB]

end cases

end Cert.Int4

end
-- ==== Proof.KernelValue.lean ====
module

public import proofs.«01_k».proof.Proof.Points
public import proofs.«01_k».proof.Proof.Gen.KernelIdeal.Value
public import Idealize.ShloMosaic.Lib.Pointwise

@[expose] public section

/-!
The kernel's result, element by element: the blocks a grid point reads are the arguments' columns `256 t` to
`256 t + 255`, the tables hold the rows' groups after every point, and so the array at row `b`, column `n` is the gated
product of the two linear maps.
-/

noncomputable section

namespace Cert.Int4

open Idealize.ShloMosaic Idealize.ShloMosaic.TcCoe Cert.KernelIdeal Cert.KernelIdeal.Gen Cert.KernelIdeal.Value

variable (m : (ℓ : Loc nD τ sig) → Buf (Elt Ideal) ℓ) (c : Dev nD)

/-! ## The arguments -/

/-- The activations. -/
def argX : FVec Ideal S512x1x4096 .bf16 := m ((c : Thread nD τ).loc main_arg0)
/-- The gate's packed codes. -/
def argQ1 : IVec S2048x11008 8 := m ((c : Thread nD τ).loc main_arg1)
/-- The up projection's packed codes. -/
def argQ2 : IVec S2048x11008 8 := m ((c : Thread nD τ).loc main_arg2)
/-- The gate's scales, as bit patterns. -/
def argS1 : IVec S32x11008 16 := m ((c : Thread nD τ).loc main_arg3)
/-- The up projection's scales, as bit patterns. -/
def argS2 : IVec S32x11008 16 := m ((c : Thread nD τ).loc main_arg4)
/-- The gate's packed zero points. -/
def argZ1 : IVec S16x11008 8 := m ((c : Thread nD τ).loc main_arg5)
/-- The up projection's packed zero points. -/
def argZ2 : IVec S16x11008 8 := m ((c : Thread nD τ).loc main_arg6)
/-- The rows' group numbers. -/
def argG : IVec S4096 32 := m ((c : Thread nD τ).loc main_arg7)

/-- The activations as the kernel finds them: the argument without its axis of one. -/
theorem V_x (b : Fin 512) (k : Fin 4096) : (V m c main_v0 : FVec Ideal S512x4096 .bf16) (ix2 b k) = argX m c (ix3 b 0 k) := by
  have e : (V m c main_v0 : FVec Ideal S512x4096 .bf16) = shapeCast S512x4096 (argX m c) shapeCasts_S512x1x4096_S512x4096 := by
    show StableHlo.after hostOps0 _ (Proc.devRef .tc main_v0) = _
    after_results
    rfl
  rw [e]
  pointwise []

/-- The group numbers as the kernel finds them: the argument in rows of 128. -/
theorem V_g (r : Fin 32) (l : Fin 128) : (V m c main_v1 : IVec S32x128 32) (ix2 r l) = argG m c (ix1 ⟨128 * r.val + l.val, by omega⟩) := by
  have e : (V m c main_v1 : IVec S32x128 32) = shapeCast S32x128 (argG m c) shapeCasts_S4096_S32x128 := by
    show StableHlo.after hostOps0 _ (Proc.devRef .tc main_v1) = _
    after_results
    rfl
  rw [e]
  pointwise []
  exact congrArg (argG m c) (congrArg ix1 (Fin.ext (by show r.val * 128 + l.val = 128 * r.val + l.val; omega)))

/-! ## The blocks -/

/-- Where the windows' blocks lie, at every point. -/
theorem index_facts : ∀ t : Fin cfg0.N, win0_0.index t = ![0, 0] ∧ win0_1.index t = ![0, 0] ∧ win0_2.index t = ![0, t.val] ∧ win0_3.index t = ![0, t.val]
    ∧ win0_4.index t = ![0, t.val] ∧ win0_5.index t = ![0, t.val] ∧ win0_6.index t = ![0, t.val] ∧ win0_7.index t = ![0, t.val] ∧ win0_8.index t = ![0, t.val] :=
  (by decide +kernel : ∀ t : Fin grid0.N, _)

/-- The grid has 43 points. -/
theorem lt_points (t : Fin cfg0.N) : t.val < 43 := lt_of_lt_of_eq t.isLt N_0

/-- Column `n` of block `t` as a column of the array. -/
def col (t : Fin cfg0.N) (n : Fin 256) : Fin 11008 := ⟨256 * t.val + n.val, by have := lt_points t; omega⟩

variable (t : Fin cfg0.N)

/-- Every point's block of activations is the whole argument. -/
theorem iblk_x (b : Fin 512) (k : Fin 4096) : (iblk m c 0 t : FVec Ideal S512x4096 .bf16) (ix2 b k) = argX m c (ix3 b 0 k) := by
  refine Eq.trans (congrArg (V m c main_v0 : FVec Ideal S512x4096 .bf16) ?_) (V_x m c b k)
  obtain ⟨h, -⟩ := index_facts t
  have h0 : win0_0.index t (0 : Fin 2) = 0 := congrFun h 0
  have h1 : win0_0.index t (1 : Fin 2) = 0 := congrFun h 1
  funext a
  match a with
  | ⟨0, _⟩ => exact Fin.ext (by show win0_0.index t (0 : Fin 2) * 512 + 1 * b.val = b.val; omega)
  | ⟨1, _⟩ => exact Fin.ext (by show win0_0.index t (1 : Fin 2) * 4096 + 1 * k.val = k.val; omega)

/-- Every point's block of group numbers is the whole argument, in rows of 128. -/
theorem iblk_g (r : Fin 32) (l : Fin 128) : (iblk m c 1 t : IVec S32x128 32) (ix2 r l) = argG m c (ix1 ⟨128 * r.val + l.val, by omega⟩) := by
  refine Eq.trans (congrArg (V m c main_v1 : IVec S32x128 32) ?_) (V_g m c r l)
  obtain ⟨-, h, -⟩ := index_facts t
  have h0 : win0_1.index t (0 : Fin 2) = 0 := congrFun h 0
  have h1 : win0_1.index t (1 : Fin 2) = 0 := congrFun h 1
  funext a
  match a with
  | ⟨0, _⟩ => exact Fin.ext (by show win0_1.index t (0 : Fin 2) * 32 + 1 * r.val = r.val; omega)
  | ⟨1, _⟩ => exact Fin.ext (by show win0_1.index t (1 : Fin 2) * 128 + 1 * l.val = l.val; omega)

/-- Block `t` of an array of 11008 columns cut into blocks of 256. -/
theorem blk_idx {R : Nat} (j : Fin 2 → Nat) (hj : j = ![0, t.val]) (e : (⟨2, ![R, 11008]⟩ : Shape).Idx) (r : Fin R) (n : Fin 256)
    (h0 : (e 0).val = j 0 * R + 1 * r.val) (h1 : (e 1).val = j 1 * 256 + 1 * n.val) : e = ix2 r (col t n) := by
  subst hj
  funext a
  match a with
  | ⟨0, _⟩ => exact Fin.ext (by show (e 0).val = r.val; simpa using h0)
  | ⟨1, _⟩ => exact Fin.ext (by show (e 1).val = 256 * t.val + n.val; rw [h1]; show t.val * 256 + 1 * n.val = _; omega)

/-- Point `t`'s block of the gate's codes. -/
theorem iblk_q1 (r : Fin 2048) (n : Fin 256) : (iblk m c 2 t : IVec S2048x256 8) (ix2 r n) = argQ1 m c (ix2 r (col t n)) := by
  refine Eq.trans (congrArg (V m c main_arg1 : IVec S2048x11008 8) ?_) (congrFun (V_main_arg1 m c) _)
  exact blk_idx t _ (index_facts t).2.2.1 _ r n rfl rfl

/-- Point `t`'s block of the up projection's codes. -/
theorem iblk_q2 (r : Fin 2048) (n : Fin 256) : (iblk m c 3 t : IVec S2048x256 8) (ix2 r n) = argQ2 m c (ix2 r (col t n)) := by
  refine Eq.trans (congrArg (V m c main_arg2 : IVec S2048x11008 8) ?_) (congrFun (V_main_arg2 m c) _)
  exact blk_idx t _ (index_facts t).2.2.2.1 _ r n rfl rfl

/-- Point `t`'s block of the gate's scales. -/
theorem iblk_s1 (r : Fin 32) (n : Fin 256) : (iblk m c 4 t : IVec S32x256 16) (ix2 r n) = argS1 m c (ix2 r (col t n)) := by
  refine Eq.trans (congrArg (V m c main_arg3 : IVec S32x11008 16) ?_) (congrFun (V_main_arg3 m c) _)
  exact blk_idx t _ (index_facts t).2.2.2.2.1 _ r n rfl rfl

/-- Point `t`'s block of the up projection's scales. -/
theorem iblk_s2 (r : Fin 32) (n : Fin 256) : (iblk m c 5 t : IVec S32x256 16) (ix2 r n) = argS2 m c (ix2 r (col t n)) := by
  refine Eq.trans (congrArg (V m c main_arg4 : IVec S32x11008 16) ?_) (congrFun (V_main_arg4 m c) _)
  exact blk_idx t _ (index_facts t).2.2.2.2.2.1 _ r n rfl rfl

/-- Point `t`'s block of the gate's zero points. -/
theorem iblk_z1 (r : Fin 16) (n : Fin 256) : (iblk m c 6 t : IVec S16x256 8) (ix2 r n) = argZ1 m c (ix2 r (col t n)) := by
  refine Eq.trans (congrArg (V m c main_arg5 : IVec S16x11008 8) ?_) (congrFun (V_main_arg5 m c) _)
  exact blk_idx t _ (index_facts t).2.2.2.2.2.2.1 _ r n rfl rfl

/-- Point `t`'s block of the up projection's zero points. -/
theorem iblk_z2 (r : Fin 16) (n : Fin 256) : (iblk m c 7 t : IVec S16x256 8) (ix2 r n) = argZ2 m c (ix2 r (col t n)) := by
  refine Eq.trans (congrArg (V m c main_arg6 : IVec S16x11008 8) ?_) (congrFun (V_main_arg6 m c) _)
  exact blk_idx t _ (index_facts t).2.2.2.2.2.2.2.1 _ r n rfl rfl

/-! ## What every point leaves -/

/-- What point `t` computes: the gated product of the activations with its two blocks of weights. -/
def outOf (t : Fin cfg0.N) : Vec Ideal S512x256 .bf16 :=
  k0_pay1 (F := Ideal) (iblk m c 0 t) (blockWeights (iblk m c 2 t) (iblk m c 4 t) (iblk m c 6 t) (group (argG m c))) (iblk m c 0 t)
    (blockWeights (iblk m c 3 t) (iblk m c 5 t) (iblk m c 7 t) (group (argG m c)))

/-- The block of group numbers every point reads holds the rows' groups. -/
theorem groups_blk (hg : InRange (argG m c)) : GroupsOf (iblk m c 1 t) (group (argG m c)) := by
  intro r l
  refine (iblk_g m c t r l).trans ?_
  apply BitVec.eq_of_toNat_eq
  have h := hg ⟨128 * r.val + l.val, by omega⟩
  show _ = (BitVec.ofNat 32 ((argG m c (ix1 ⟨128 * r.val + l.val, _⟩)).toNat % 32)).toNat
  rw [BitVec.toNat_ofNat, Nat.mod_eq_of_lt h, Nat.mod_eq_of_lt (by omega)]

/-- After every point the carried tables hold the rows' groups and the output block the point's product. -/
theorem outs_eq (hg : InRange (argG m c)) : ∀ (n : ℕ) (hn : n < cfg0.N),
    outsAt0 m c n hn = (outOf m c ⟨n, hn⟩, tableOf (group (argG m c)), table2Of (group (argG m c)))
  | 0, hn => by
    refine (outsAt0_A m c ⟨0, hn⟩ (Nat.zero_mod _)).trans ?_
    rw [out_A _ _ _ _ _ _ _ _ _ _ _ _ _ _ _ _ _ _ _ _ _ _ _ _ _ _ _ _ _ _ _ _ _ _ _ _ _ (groups_blk m c _ hg),
      sout_A_0 _ _ _ _ _ _ _ _ _ _ _ _ _ _ _ _ _ _ _ _ _ _ _ _ _ _ _ _ _ _ _ _ _ _ _ _ _ (groups_blk m c _ hg),
      sout_A_1 _ _ _ _ _ _ _ _ _ _ _ _ _ _ _ _ _ _ _ _ _ _ _ _ _ _ _ _ _ _ _ _ _ _ _ _ _ (groups_blk m c _ hg)]
    rfl
  | n + 1, hn => by
    have hN : n + 1 < 43 := lt_of_lt_of_eq hn N_0
    have h0 : ¬(n + 1) % 43 = 0 := by omega
    refine (outsAt0_B m c ⟨n + 1, hn⟩ h0).trans ?_
    have e := outs_eq hg n (Nat.lt_of_succ_lt hn)
    simp only [Nat.add_sub_cancel]
    rw [e]
    dsimp only
    rw [out_B]
    rfl

/-! ## The array -/

/-- What point `t` computes, at an element. -/
theorem outOf_at (b : Fin 512) (n : Fin 256) :
    (outOf m c t (ix2 b n) : EReal) = swiglu (linear (argX m c) (argQ1 m c) (argS1 m c) (argZ1 m c) (argG m c) b (col t n))
      (linear (argX m c) (argQ2 m c) (argS2 m c) (argZ2 m c) (argG m c) b (col t n)) := by
  refine (gate_at _ _ _ b n).trans (congrArg₂ swiglu ?_ ?_)
  · refine Finset.sum_congr rfl fun k _ => congrArg₂ (· * ·) (iblk_x m c t b k) ?_
    show blockWeight _ _ _ _ k n = weight _ _ _ _ k (col t n)
    unfold blockWeight weight zeroPt
    rw [iblk_q1, iblk_s1, iblk_z1]
  · refine Finset.sum_congr rfl fun k _ => congrArg₂ (· * ·) (iblk_x m c t b k) ?_
    show blockWeight _ _ _ _ k n = weight _ _ _ _ k (col t n)
    unfold blockWeight weight zeroPt
    rw [iblk_q2, iblk_s2, iblk_z2]

/-- The kernel's result at row `b`, column `n`. -/
theorem result_at (hg : InRange (argG m c)) (b : Fin 512) (n : Fin 11008) :
    ((G8 m c : FVec Ideal S512x11008 .bf16) (ix2 b n) : EReal)
      = swiglu (linear (argX m c) (argQ1 m c) (argS1 m c) (argZ1 m c) (argG m c) b n)
          (linear (argX m c) (argQ2 m c) (argS2 m c) (argZ2 m c) (argG m c) b n) := by
  have hb := b.isLt
  have hn := n.isLt
  have hp : pt8Of (ix2 b n) = n.val / 256 := by
    show 43 * (b.val / 512 - 0) + 1 * (n.val / 256 - 0) = n.val / 256
    omega
  have hl : pt8Of (ix2 b n) < cfg0.N := lt_of_lt_of_eq (by rw [hp]; omega) N_0.symm
  have h1 : (G8 m c : FVec Ideal S512x11008 .bf16) (ix2 b n) = (outsAt0 m c (pt8Of (ix2 b n)) hl).1 (loc8Of (ix2 b n)) := by
    rw [outsAt0_sweep]
    exact dif_pos hl
  have hloc : loc8Of (ix2 b n) = ix2 b ⟨n.val % 256, Nat.mod_lt _ (by decide)⟩ := by
    funext a
    match a with
    | ⟨0, _⟩ => exact Fin.ext (Nat.mod_eq_of_lt hb)
    | ⟨1, _⟩ => rfl
  have hcol : col ⟨pt8Of (ix2 b n), hl⟩ ⟨n.val % 256, Nat.mod_lt _ (by decide)⟩ = n :=
    Fin.ext (by show 256 * pt8Of (ix2 b n) + n.val % 256 = n.val; rw [hp]; omega)
  rw [h1, outs_eq m c hg, hloc]
  refine (outOf_at m c _ b _).trans ?_
  rw [hcol]

end Cert.Int4

end
-- ==== Proof.Reference.lean ====
module

public import proofs.«01_k».proof.Proof.Gen.ReferenceIdeal.Run
public import proofs.«01_k».proof.Proof.Spec

@[expose] public section

/-!
The reference's result, element by element: the gated product of the two linear outputs.
-/

noncomputable section

namespace Cert.Int4

open Idealize.ShloMosaic Cert.ReferenceIdeal Cert.ReferenceIdeal.Gen Idealize.ShloMosaic.TcCoe

/-- The reference's row of group numbers as gather indices: a negative number counts from the end. -/
def refRows (g : IVec S2048 32) : IVec S2048x1 32 :=
  broadcastInDim S2048x1 ![0] bcast_S2048_S2048x1_0
    (select (cmpi .slt g (broadcastInDim S2048 ![] bcast_S_S2048 (constantI S_ 32 0#32)))
      (addi g (broadcastInDim S2048 ![] bcast_S_S2048 (constantI S_ 32 32#32))) g)

/-- The reference's zero points, unpacked. -/
def refZeros (z : IVec S16x11008 8) : FVec Ideal S32x11008 .bf16 :=
  concatenate S32x11008 0 [⟨S16x11008, (sitofp .bf16 (andi (extui 32 z natLt_8_32)
      (broadcastInDim S16x11008 ![] bcast_S_S16x11008 (constantI S_ 32 15#32))))⟩,
    ⟨S16x11008, (sitofp .bf16 (Host.shrsi (extui 32 z natLt_8_32)
      (broadcastInDim S16x11008 ![] bcast_S_S16x11008 (constantI S_ 32 4#32))))⟩] concatenates_S16x11008_S16x11008_S32x11008_d0

/-- The reference's weights of one half of the rows, from those rows' codes and group numbers. -/
def refWeights (codes : IVec S2048x11008 32) (s : IVec S32x11008 16) (z : IVec S16x11008 8) (g : IVec S2048 32) :
    FVec Ideal S2048x11008 .bf16 :=
  mulf (subf (sitofp .bf16 codes)
      (Host.gather gather_S32x11008_S2048x1_S2048x11008_1_0_n_n_0_1_111008 (refZeros z) (refRows g)))
    (Host.gather gather_S32x11008_S2048x1_S2048x11008_1_0_n_n_0_1_111008 (bitcastToFloat (F := Ideal) .bf16 s) (refRows g))

/-- The low codes of the packed rows. -/
def refLow (q : IVec S2048x11008 8) : IVec S2048x11008 32 :=
  andi (extui 32 q natLt_8_32) (broadcastInDim S2048x11008 ![] bcast_S_S2048x11008 (constantI S_ 32 15#32))

/-- The high codes of the packed rows. -/
def refHigh (q : IVec S2048x11008 8) : IVec S2048x11008 32 :=
  Host.shrsi (extui 32 q natLt_8_32) (broadcastInDim S2048x11008 ![] bcast_S_S2048x11008 (constantI S_ 32 4#32))

/-- The reference's linear output: the even rows' product plus the odd rows'. -/
def refLinear (x : FVec Ideal S512x1x4096 .bf16) (q : IVec S2048x11008 8) (s : IVec S32x11008 16) (z : IVec S16x11008 8)
    (g : IVec S4096 32) : FVec Ideal S512x1x11008 .f32 :=
  addf (Host.dotGeneral dot_S512x1x2048_S2048x11008_S512x1x11008_2_0_01_1_n_n none
      (Host.slice S512x1x2048 ![0, 0, 0] ![1, 1, 2] x slicesBy_S512x1x4096_S512x1x2048_0s1_0s1_0s2)
      (refWeights (refLow q) s z (Host.slice S2048 ![0] ![2] g slicesBy_S4096_S2048_0s2)))
    (Host.dotGeneral dot_S512x1x2048_S2048x11008_S512x1x11008_2_0_01_1_n_n none
      (Host.slice S512x1x2048 ![0, 0, 1] ![1, 1, 2] x slicesBy_S512x1x4096_S512x1x2048_0s1_0s1_1s2)
      (refWeights (refHigh q) s z (Host.slice S2048 ![1] ![2] g slicesBy_S4096_S2048_1s2)))

/-- The reference's result from its two linear outputs. -/
def refGate (v u : FVec Ideal S512x1x11008 .f32) : FVec Ideal S512x11008 .bf16 :=
  shapeCast S512x11008 (truncf .bf16 (mulf (mulf v (Host.divf
    (broadcastInDim S512x1x11008 ![] bcast_S_S512x1x11008 (constant S_ .f32 0x3F800000#32))
    (addf (broadcastInDim S512x1x11008 ![] bcast_S_S512x1x11008 (constant S_ .f32 0x3F800000#32)) (Host.exp (Host.negf v))))) u) bitsLt_bf16_f32)
    shapeCasts_S512x1x11008_S512x11008

/-- The gather reads the row of its index, which is clamped to the rows there are. -/
theorem gather_at (X : FVec Ideal S32x11008 .bf16) (r : IVec S2048x1 32) (i : Fin 2048) (n : Fin 11008) :
    Host.gather gather_S32x11008_S2048x1_S2048x11008_1_0_n_n_0_1_111008 X r (ix2 i n)
      = X (ix2 ⟨min (r (ix2 i 0)).toInt.toNat 31, by omega⟩ n) := by
  unfold Host.gather
  congr 1
  funext a
  refine Fin.ext ?_
  show GatherDims.start _ (ix2 i n) r a + GatherDims.batchCoord _ (ix2 i n) a + GatherDims.offCoord _ (ix2 i n) a = _
  have h01 : a = 0 ∨ a = 1 := by
    match a with
    | ⟨0, _⟩ => exact Or.inl rfl
    | ⟨1, _⟩ => exact Or.inr rfl
  rw [GatherDims.batchCoord_eq_zero _ _ _ (by exact List.not_mem_nil)]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (by exact List.mem_singleton.mpr rfl)]
    have hsi : (gather_S32x11008_S2048x1_S2048x11008_1_0_n_n_0_1_111008).siIdx (ix2 i n)
        ⟨List.idxOf (0 : Fin 2) [0], List.idxOf_lt_length_iff.2 (List.mem_singleton.mpr rfl)⟩ = ix2 i 0 := by
      funext b; refine Fin.ext ?_
      match b with
      | ⟨0, _⟩ => rfl
      | ⟨1, _⟩ => rfl
    exact congrArg (fun t => min (r t).toInt.toNat 31) hsi
  · unfold GatherDims.start
    rw [dif_neg (by decide)]
    simp only [Nat.zero_add]
    rfl

/-- The reference's row number, clamped to the table, is the group number wherever that is in range. -/
theorem refRows_at (g : IVec S2048 32) (i : Fin 2048) (h : (g (ix1 i)).toNat < 32) :
    min (refRows g (ix2 i 0)).toInt.toNat 31 = (g (ix1 i)).toNat := by
  pointwise [refRows]
  generalize g (ix1 i) = w at h
  have hw : w = BitVec.ofNat 32 w.toNat := by simp
  rw [hw]
  have : ∀ k < 32, min (Scalar.select (IntOp.cmpi CmpIPredicate.slt (BitVec.ofNat 32 k) 0#32)
      (IntOp.addi (BitVec.ofNat 32 k) 32#32) (BitVec.ofNat 32 k)).toInt.toNat 31 = (BitVec.ofNat 32 k).toNat := by decide
  exact this _ h

/-- A byte's low code as a word. -/
theorem low_code (b : BitVec 8) : (IntOp.andi (BitVec.setWidth 32 b) 15#32).toInt = (nib 0 b : Int) := by
  revert b; decide

/-- A byte's high code as a word. -/
theorem high_code (b : BitVec 8) : (IntOp.shrsi ArithUnit.host (BitVec.setWidth 32 b) 4#32).toInt = (nib 1 b : Int) := by
  revert b; decide

/-- The reference's unpacked zero points, read at an element. -/
theorem refZeros_at (z : IVec S16x11008 8) (g : Fin 32) (n : Fin 11008) :
    (refZeros z (ix2 g n) : EReal) = (((zeroPt z g n : Int) : ℝ) : EReal) := by
  pointwise [refZeros]
  unfold zeroPt
  split
  case isTrue h =>
    show ((((IntOp.andi (BitVec.setWidth 32 _) 15#32).toInt : ℝ)) : EReal) = _
    rw [low_code]
    simp only [Nat.div_eq_of_lt h, Nat.mod_eq_of_lt h]
  case isFalse h =>
    show ((((IntOp.shrsi ArithUnit.host (BitVec.setWidth 32 _) 4#32).toInt : ℝ)) : EReal) = _
    rw [high_code]
    have h1 : g.val / 16 = 1 := by omega
    have h2 : g.val % 16 = g.val - 16 := by omega
    simp only [h1, h2]

/-- The reference's gate, read at an element. -/
theorem refGate_at (v u : FVec Ideal S512x1x11008 .f32) (b : Fin 512) (n : Fin 11008) :
    (refGate v u (ix2 b n) : EReal) = swiglu (v (ix3 b 0 n)) (u (ix3 b 0 n)) := by
  pointwise [refGate]
  rfl

/-- A weight of the reference: the row's code less its group's zero point, times its group's scale. -/
theorem refWeights_at (c : IVec S2048x11008 32) (s : IVec S32x11008 16) (z : IVec S16x11008 8) (g : IVec S2048 32)
    (i : Fin 2048) (n : Fin 11008) (gr : Fin 32) (hg : (g (ix1 i)).toNat = gr.val) (v : Nat)
    (hc : (c (ix2 i n)).toInt = (v : Int)) :
    (refWeights c s z g (ix2 i n) : EReal)
      = ((((v : Int) - (zeroPt z gr n : Int) : Int) : ℝ) : EReal) * Ideal.ofBits .bf16 (s (ix2 gr n)) := by
  pointwise [refWeights]
  have hr : (⟨min (refRows g (ix2 i 0)).toInt.toNat 31, by omega⟩ : Fin 32) = gr :=
    Fin.ext ((refRows_at g i (by omega)).trans hg)
  rw [gather_at, gather_at, hr, refZeros_at]
  show (((((c (ix2 i n)).toInt : ℝ)) : EReal) - _) * Ideal.ofBits .bf16 (s (ix2 gr n)) = _
  rw [hc, Int.cast_sub, EReal.coe_sub]

/-- The reference's linear map, read at an element, for group numbers in range. -/
theorem refLinear_at (x : FVec Ideal S512x1x4096 .bf16) (q : IVec S2048x11008 8) (s : IVec S32x11008 16) (z : IVec S16x11008 8)
    (g : IVec S4096 32) (hg : InRange g) (b : Fin 512) (n : Fin 11008) :
    (refLinear x q s z g (ix3 b 0 n) : EReal) = linear x q s z g b n := by
  pointwise [refLinear]
  unfold linear
  rw [sum_even_odd]
  refine congrArg₂ (· + ·) ?_ ?_
  · refine Finset.sum_congr rfl fun i _ => ?_
    rw [refWeights_at (refLow q) s z _ i n (group g ⟨2 * i.val, by omega⟩) (by
        pointwise
        exact (Nat.mod_eq_of_lt (hg _)).symm) (nib 0 (q (ix2 i n))) (by
        pointwise [refLow]
        exact low_code _)]
    unfold weight
    have h1 : (2 * i.val) % 2 = 0 := by omega
    have h2 : (2 * i.val) / 2 = i.val := by omega
    simp only [h1, h2]
  · refine Finset.sum_congr rfl fun i _ => ?_
    have h0 : 1 + 2 * i.val = 2 * i.val + 1 := Nat.add_comm _ _
    rw [refWeights_at (refHigh q) s z _ i n (group g ⟨2 * i.val + 1, by omega⟩) (by
        pointwise
        simp only [h0]
        exact (Nat.mod_eq_of_lt (hg _)).symm) (nib 1 (q (ix2 i n))) (by
        pointwise [refHigh]
        exact high_code _)]
    unfold weight
    have h1 : (2 * i.val + 1) % 2 = 1 := by omega
    have h2 : (2 * i.val + 1) / 2 = i.val := by omega
    simp only [h0, h1, h2]

/-- The reference's result is the gate of its two linear maps. -/
theorem result_eq (m : (ℓ : Loc nD τ sig) → Buf (Elt Ideal) ℓ) (c : Dev nD) :
    Cert.ReferenceIdeal.Value.res_out0 m c = refGate
      (refLinear (m ((c.tc : Thread nD τ).loc main_arg0)) (m ((c.tc : Thread nD τ).loc main_arg1))
        (m ((c.tc : Thread nD τ).loc main_arg3)) (m ((c.tc : Thread nD τ).loc main_arg5)) (m ((c.tc : Thread nD τ).loc main_arg7)))
      (refLinear (m ((c.tc : Thread nD τ).loc main_arg0)) (m ((c.tc : Thread nD τ).loc main_arg2))
        (m ((c.tc : Thread nD τ).loc main_arg4)) (m ((c.tc : Thread nD τ).loc main_arg6)) (m ((c.tc : Thread nD τ).loc main_arg7))) := by
  unfold Cert.ReferenceIdeal.Value.res_out0 Cert.ReferenceIdeal.Value.res_main_v119 refGate refLinear refWeights refLow refHigh
    refZeros refRows
  rfl

end Cert.Int4

end
-- ==== Proof.Precondition.lean ====
module

public import proofs.«01_k».proof.Pre_in_range
public import proofs.«01_k».proof.Proof.Spec
public import Idealize.ShloMosaic.Lib.ReduceAll
public import Idealize.ShloMosaic.Lib.Pointwise

@[expose] public section

/-!
The precondition read: where it holds, every row's group number is at least 0 and less than 32.
-/

noncomputable section

namespace Cert.Int4

open Idealize.ShloMosaic

/-- The precondition's shape relations. -/
theorem preFacts : Cert.Pre_in_range.Facts where
  bcast_S_S4096 := by decide
  reducesTo_S4096_S_d0 := by decide
  h_S_ := by decide

/-- A 32-bit word that is at least 0 and less than 32 as a signed number is less than 32 as a natural number. -/
theorem word_lt (w : BitVec 32) (h0 : IntOp.cmpi .sge w 0#32 = 1#1) (h1 : IntOp.cmpi .slt w 32#32 = 1#1) : w.toNat < 32 := by
  have a : (0#32).sle w = true := by
    have e : BitVec.ofBool ((0#32).sle w) = 1#1 := h0
    cases hn : (0#32).sle w
    · rw [hn] at e
      exact absurd e (by decide)
    · rfl
  have b : w.slt 32#32 = true := by
    have e : BitVec.ofBool (w.slt 32#32) = 1#1 := h1
    cases hn : w.slt 32#32
    · rw [hn] at e
      exact absurd e (by decide)
    · rfl
  rw [BitVec.sle_iff_toInt_le] at a
  rw [BitVec.slt_iff_toInt_lt] at b
  have hw := w.isLt
  have e := BitVec.toInt_eq_toNat_cond w
  have e0 : (0#32).toInt = 0 := rfl
  have e1 : (32#32).toInt = 32 := rfl
  split at e <;> omega

/-- Where the precondition holds, every group number is in range. -/
theorem inRange_of_pre [Cert.Pre_in_range.Facts] (x : FVec Ideal Cert.Pre_in_range.S512x1x4096 .bf16)
    (q1 q2 : IVec Cert.Pre_in_range.S2048x11008 8) (s1 s2 : IVec Cert.Pre_in_range.S32x11008 16) (z1 z2 : IVec Cert.Pre_in_range.S16x11008 8)
    (g : IVec Cert.Pre_in_range.S4096 32) (h : Cert.Pre_in_range.fn x q1 q2 s1 s2 z1 z2 g = fun _ => 1#1) : InRange g := by
  intro k
  have e := congrFun h (Shape.Idx.first (s := Cert.Pre_in_range.S_) Cert.Pre_in_range.Facts.h_S_)
  haveI : Subsingleton Cert.Pre_in_range.S_.Idx := ⟨fun a b => funext fun i => i.elim0⟩
  have hk := Host.reduce_andi_all _ _ _ _ _ e (ix1 k)
  obtain ⟨h0, h1⟩ := IntOp.andi_eq_one.1 hk
  exact word_lt _ h0 h1

end Cert.Int4

end
-- ==== Proof.lean ====
/-
  The proof of `Cert.Claim`: both programs run and leave the machine quiescent, and at the ideal instance the kernel's
  result is the reference's. The kernel's result is read element by element in Proof/KernelValue.lean, the reference's in
  Proof/Reference.lean; both are Proof/Spec.lean's gated product of two linear maps over dequantised weights.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.Reference
public import proofs.«01_k».proof.Proof.Precondition
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.Int4

/-- The reference runs and leaves its arguments; it declares no semaphore. -/
theorem frame_ref : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Where the group numbers are in range the two results are one array. -/
theorem results_eq (m : (ℓ : Loc Cert.KernelIdeal.nD Cert.KernelIdeal.τ Cert.KernelIdeal.sig) → Buf (Elt Ideal) ℓ)
    (c : Dev Cert.KernelIdeal.nD) (hg : InRange (argG m c)) :
    refGate (refLinear (argX m c) (argQ1 m c) (argS1 m c) (argZ1 m c) (argG m c))
        (refLinear (argX m c) (argQ2 m c) (argS2 m c) (argZ2 m c) (argG m c))
      = (Cert.KernelIdeal.Value.G8 m c : FVec Ideal Cert.KernelIdeal.S512x11008 .bf16) := by
  funext y
  obtain ⟨b, n, rfl⟩ : ∃ (b : Fin 512) (n : Fin 11008), y = ix2 b n := ⟨y 0, y 1, by
    funext a
    match a with
    | ⟨0, _⟩ => rfl
    | ⟨1, _⟩ => rfl⟩
  refine ((refGate_at _ _ b n).trans ?_).trans (result_at m c hg b n).symm
  rw [refLinear_at _ _ _ _ _ hg, refLinear_at _ _ _ _ _ hg]

/-- The kernel's result is the reference's, wherever every group number is in range. -/
theorem algebraic : Cert.algebraic_KernelIdeal_ReferenceIdeal_pre_in_range (hKernelIdeal := Cert.KernelIdeal.Gen.facts)
    (hReferenceIdeal := Cert.ReferenceIdeal.Gen.facts) (hPre_in_range := preFacts) := by
  intro m ρ m' ρ' hpre hargs
  refine ⟨fun c => Cert.KernelIdeal.Value.G8 m c, Cert.KernelIdeal.Value.run m ρ, ?_⟩
  refine (θ_run Cert.ReferenceIdeal.defs _ _).mono (fun r h c => ⟨(h c).1.trans ?_, (h c).2⟩)
    (Cert.ReferenceIdeal.Value.run (F := Ideal) m' ρ')
  have hg : InRange (argG m c) := @inRange_of_pre preFacts _ _ _ _ _ _ _ _ (hpre c)
  obtain ⟨h0, h1, h2, h3, h4, h5, h6, h7⟩ := hargs c
  refine (result_eq m' c).trans ?_
  rw [h0, h1, h2, h3, h4, h5, h6, h7]
  exact results_eq m c hg

theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial, trivial, algebraic⟩

end Cert.Proof

end
